-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_v1_3) = v3 c
          ∧ r.2.mem ((c.tc : Thread Cert.ReferenceIdeal.nD Cert.ReferenceIdeal.τ).loc Cert.ReferenceIdeal.main_v1_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1x7168 : Shape := ⟨3, ![16, 1, 7168]⟩
abbrev S2x24576x7168 : Shape := ⟨3, ![2, 24576, 7168]⟩
abbrev S2x192x56 : Shape := ⟨3, ![2, 192, 56]⟩
abbrev S16x7168 : Shape := ⟨2, ![16, 7168]⟩
abbrev S2x56x192 : Shape := ⟨3, ![2, 56, 192]⟩
abbrev S16x24576 : Shape := ⟨2, ![16, 24576]⟩
abbrev S16x1x56 : Shape := ⟨3, ![16, 1, 56]⟩
abbrev S16x1x192 : Shape := ⟨3, ![16, 1, 192]⟩
abbrev S16x256 : Shape := ⟨2, ![16, 256]⟩
abbrev S16x192 : Shape := ⟨2, ![16, 192]⟩
abbrev S4x2x256x7168 : Shape := ⟨4, ![4, 2, 256, 7168]⟩
abbrev S4 : Shape := ⟨1, ![4]⟩
abbrev S1 : Shape := ⟨1, ![1]⟩
abbrev S_ : Shape := ⟨0, ![]⟩
abbrev S1x2x256x7168 : Shape := ⟨4, ![1, 2, 256, 7168]⟩
abbrev S2x256x7168 : Shape := ⟨3, ![2, 256, 7168]⟩
abbrev S16x56 : Shape := ⟨2, ![16, 56]⟩
abbrev S16x128 : Shape := ⟨2, ![16, 128]⟩
abbrev S16 : Shape := ⟨1, ![16]⟩
abbrev S16x1 : Shape := ⟨2, ![16, 1]⟩
abbrev S1x1x1 : Shape := ⟨3, ![1, 1, 1]⟩
abbrev S32x7168 : Shape := ⟨2, ![32, 7168]⟩
abbrev S1x1x256x7168 : Shape := ⟨4, ![1, 1, 256, 7168]⟩
abbrev S256x7168 : Shape := ⟨2, ![256, 7168]⟩
abbrev S32x256 : Shape := ⟨2, ![32, 256]⟩

abbrev nBuf : Space → Nat
  | .hbm => 10
  | .vmem => 11
  | .smem => 1
  | _ => 0

abbrev bufTy : (tb : Table) → Fin (tcTables nBuf tb) → BufTy
  | .hbm, ⟨0, _⟩ => ⟨S16x1x7168, .bf16⟩
  | .hbm, ⟨1, _⟩ => ⟨S2x24576x7168, .fp8e4m3⟩
  | .hbm, ⟨2, _⟩ => ⟨S2x192x56, .f32⟩
  | .hbm, ⟨3, _⟩ => ⟨S16x7168, .bf16⟩
  | .hbm, ⟨4, _⟩ => ⟨S2x56x192, .f32⟩
  | .hbm, ⟨5, _⟩ => ⟨S16x24576, .bf16⟩
  | .hbm, ⟨6, _⟩ => ⟨S16x7168, .fp8e4m3⟩
  | .hbm, ⟨7, _⟩ => ⟨S16x1x56, .f32⟩
  | .hbm, ⟨8, _⟩ => ⟨S16x24576, .fp8e4m3⟩
  | .hbm, ⟨9, _⟩ => ⟨S16x1x192, .f32⟩
  | .local _ .vmem, ⟨0, _⟩ => ⟨S16x7168, .bf16⟩
  | .local _ .vmem, ⟨1, _⟩ => ⟨S16x256, .bf16⟩
  | .local _ .vmem, ⟨2, _⟩ => ⟨S16x256, .bf16⟩
  | .local _ .vmem, ⟨3, _⟩ => ⟨S16x7168, .fp8e4m3⟩
  | .local _ .vmem, ⟨4, _⟩ => ⟨S16x1x56, .f32⟩
  | .local _ .vmem, ⟨5, _⟩ => ⟨S16x256, .fp8e4m3⟩
  | .local _ .vmem, ⟨6, _⟩ => ⟨S16x256, .fp8e4m3⟩
  | .local _ .vmem, ⟨7, _⟩ => ⟨S16x1x192, .f32⟩
  | .local _ .vmem, ⟨8, _⟩ => ⟨S16x7168, .bf16⟩
  | .local _ .vmem, ⟨9, _⟩ => ⟨S16x192, .f32⟩
  | .local _ .vmem, ⟨10, _⟩ => ⟨S4x2x256x7168, .fp8e4m3⟩
  | .local _ .smem, ⟨0, _⟩ => ⟨S2x56x192, .f32⟩
  | _, _ => ⟨S16x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8

abbrev nD : Nat := 1
abbrev τ : Topo := Topo.v7x

variable {F : FTy → Type} [FloatOps F]

abbrev grid0 : Pipeline.Grid := ⟨1, ![96], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_1290 : BitVec 32 := 0#32
  c0_i32_1290
def k0_mult2 : BitVec 32 :=
  let c256_i32_1298 : BitVec 32 := 256#32
  c256_i32_1298
def k0_mult3 : BitVec 32 :=
  let c512_i32 : BitVec 32 := 512#32
  c512_i32
def k0_cond2 (i : grid0.Coords) : BitVec 1 :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c96_i32 : BitVec 32 := 96#32
  let v5 : BitVec 1 := Scalar.cmpi .slt v4 c96_i32
  let v6 : BitVec 32 := Scalar.extui v5
  let c0_i32_1 : BitVec 32 := 0#32
  let v7 : BitVec 1 := Scalar.cmpi .ne v6 c0_i32_1
  v7

def k0_mult4 (i : grid0.Coords) : BitVec 32 :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c256_i32_1291 : BitVec 32 := 256#32
  let v1945 : BitVec 32 := Scalar.muli v4 c256_i32_1291
  v1945
def k0_off1 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_1290 : BitVec 32 := 4#32
  let v1944 : BitVec 32 := Scalar.remsi v4 c4_i32_1290
  ![v1944.toNat]
def k0_off2 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_1290 : BitVec 32 := 4#32
  let v1944 : BitVec 32 := Scalar.remsi v4 c4_i32_1290
  let c0_i32_1292 : BitVec 32 := 0#32
  let c0_i32_1293 : BitVec 32 := 0#32
  let c0_i32_1294 : BitVec 32 := 0#32
  ![v1944.toNat, 0, 0, 0]
def k0_off3 (i : grid0.Coords) : Fin 3 → Nat :=
  let c0_i32_1295 : BitVec 32 := 0#32
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c256_i32_1291 : BitVec 32 := 256#32
  let v1945 : BitVec 32 := Scalar.muli v4 c256_i32_1291
  let v1946 : BitVec 32 := v1945
  let c0_i32_1296 : BitVec 32 := 0#32
  ![0, v1946.toNat, 0]
def k0_mult5 (i : grid0.Coords) : BitVec 32 :=
  let arg0 : BitVec 32 := BitVec.ofNat 32 (i 0).val
  let c256_i32 : BitVec 32 := 256#32
  let v9 : BitVec 32 := Scalar.muli arg0 c256_i32
  v9
def k0_off4 (i : grid0.Coords) : Fin 1 → Nat :=
  let arg0 : BitVec 32 := BitVec.ofNat 32 (i 0).val
  let c4_i32_2 : BitVec 32 := 4#32
  let v8 : BitVec 32 := Scalar.remsi arg0 c4_i32_2
  ![v8.toNat]
def k0_off5 (i : grid0.Coords) : Fin 4 → Nat :=
  let arg0 : BitVec 32 := BitVec.ofNat 32 (i 0).val
  let c4_i32_2 : BitVec 32 := 4#32
  let v8 : BitVec 32 := Scalar.remsi arg0 c4_i32_2
  let c0_i32_3 : BitVec 32 := 0#32
  let c0_i32_4 : BitVec 32 := 0#32
  let c0_i32_5 : BitVec 32 := 0#32
  ![v8.toNat, 0, 0, 0]
def k0_off6 (i : grid0.Coords) : Fin 3 → Nat :=
  let c0_i32_6 : BitVec 32 := 0#32
  let arg0 : BitVec 32 := BitVec.ofNat 32 (i 0).val
  let c256_i32 : BitVec 32 := 256#32
  let v9 : BitVec 32 := Scalar.muli arg0 c256_i32
  let v10 : BitVec 32 := v9
  let c0_i32_7 : BitVec 32 := 0#32
  ![0, v10.toNat, 0]
def k0_off7 (i : grid0.Coords) (c0_i32_8 : BitVec 32) : Fin 3 → Nat :=
  let c0 : Index := 0#32
  let c0_9 : Index := 0#32
  let arg0 : BitVec 32 := BitVec.ofNat 32 (i 0).val
  let c2_i32 : BitVec 32 := 2#32
  let v16 : BitVec 32 := Scalar.muli arg0 c2_i32
  let v17 : BitVec 32 := Scalar.addi v16 c0_i32_8
  let v18 : Index := Scalar.indexCast v17
  ![0, 0, v18.toNat]
def k0_off8 (i : grid0.Coords) (c0_i32_13 : BitVec 32) : Fin 3 → Nat :=
  let c0_14 : Index := 0#32
  let c1 : Index := 1#32
  let arg0 : BitVec 32 := BitVec.ofNat 32 (i 0).val
  let c2_i32_12 : BitVec 32 := 2#32
  let v24 : BitVec 32 := Scalar.muli arg0 c2_i32_12
  let v25 : BitVec 32 := Scalar.addi v24 c0_i32_13
  let v26 : Index := Scalar.indexCast v25
  ![0, 1, v26.toNat]
def k0_off9 (i : grid0.Coords) (c0_i32_17 : BitVec 32) : Fin 3 → Nat :=
  let c0_18 : Index := 0#32
  let c2 : Index := 2#32
  let arg0 : BitVec 32 := BitVec.ofNat 32 (i 0).val
  let c2_i32_16 : BitVec 32 := 2#32
  let v32 : BitVec 32 := Scalar.muli arg0 c2_i32_16
  let v33 : BitVec 32 := Scalar.addi v32 c0_i32_17
  let v34 : Index := Scalar.indexCast v33
  ![0, 2, v34.toNat]
def k0_off10 (i : grid0.Coords) (c0_i32_21 : BitVec 32) : Fin 3 → Nat :=
  let c0_22 : Index := 0#32
  let c3 : Index := 3#32
  let arg0 : BitVec 32 := BitVec.ofNat 32 (i 0).val
  let c2_i32_20 : BitVec 32 := 2#32
  let v40 : BitVec 32 := Scalar.muli arg0 c2_i32_20
  let v41 : BitVec 32 := Scalar.addi v40 c0_i32_21
  let v42 : Index := Scalar.indexCast v41
  ![0, 3, v42.toNat]
def k0_off11 (i : grid0.Coords) (c0_i32_25 : BitVec 32) : Fin 3 → Nat :=
  let c0_26 : Index := 0#32
  let c4 : Index := 4#32
  let arg0 : BitVec 32 := BitVec.ofNat 32 (i 0).val
  let c2_i32_24 : BitVec 32 := 2#32
  let v48 : BitVec 32 := Scalar.muli arg0 c2_i32_24
  let v49 : BitVec 32 := Scalar.addi v48 c0_i32_25
  let v50 : Index := Scalar.indexCast v49
  ![0, 4, v50.toNat]
def k0_off12 (i : grid0.Coords) (c0_i32_29 : BitVec 32) : Fin 3 → Nat :=
  let c0_30 : Index := 0#32
  let c5 : Index := 5#32
  let arg0 : BitVec 32 := BitVec.ofNat 32 (i 0).val
  let c2_i32_28 : BitVec 32 := 2#32
  let v56 : BitVec 32 := Scalar.muli arg0 c2_i32_28
  let v57 : BitVec 32 := Scalar.addi v56 c0_i32_29
  let v58 : Index := Scalar.indexCast v57
  ![0, 5, v58.toNat]
def k0_off13 (i : grid0.Coords) (c0_i32_33 : BitVec 32) : Fin 3 → Nat :=
  let c0_34 : Index := 0#32
  let c6 : Index := 6#32
  let arg0 : BitVec 32 := BitVec.ofNat 32 (i 0).val
  let c2_i32_32 : BitVec 32 := 2#32
  let v64 : BitVec 32 := Scalar.muli arg0 c2_i32_32
  let v65 : BitVec 32 := Scalar.addi v64 c0_i32_33
  let v66 : Index := Scalar.indexCast v65
  ![0, 6, v66.toNat]
def k0_off14 (i : grid0.Coords) (c0_i32_37 : BitVec 32) : Fin 3 → Nat :=
  let c0_38 : Index := 0#32
  let c7 : Index := 7#32
  let arg0 : BitVec 32 := BitVec.ofNat 32 (i 0).val
  let c2_i32_36 : BitVec 32 := 2#32
  let v72 : BitVec 32 := Scalar.muli arg0 c2_i32_36
  let v73 : BitVec 32 := Scalar.addi v72 c0_i32_37
  let v74 : Index := Scalar.indexCast v73
  ![0, 7, v74.toNat]
def k0_off15 (i : grid0.Coords) (c0_i32_41 : BitVec 32) : Fin 3 → Nat :=
  let c0_42 : Index := 0#32
  let c8 : Index := 8#32
  let arg0 : BitVec 32 := BitVec.ofNat 32 (i 0).val
  let c2_i32_40 : BitVec 32 := 2#32
  let v80 : BitVec 32 := Scalar.muli arg0 c2_i32_40
  let v81 : BitVec 32 := Scalar.addi v80 c0_i32_41
  let v82 : Index := Scalar.indexCast v81
  ![0, 8, v82.toNat]
def k0_off16 (i : grid0.Coords) (c0_i32_45 : BitVec 32) : Fin 3 → Nat :=
  let c0_46 : Index := 0#32
  let c9 : Index := 9#32
  let arg0 : BitVec 32 := BitVec.ofNat 32 (i 0).val
  let c2_i32_44 : BitVec 32 := 2#32
  let v88 : BitVec 32 := Scalar.muli arg0 c2_i32_44
  let v89 : BitVec 32 := Scalar.addi v88 c0_i32_45
  let v90 : Index := Scalar.indexCast v89
  ![0, 9, v90.toNat]
def k0_off17 (i : grid0.Coords) (c0_i32_49 : BitVec 32) : Fin 3 → Nat :=
  let c0_50 : Index := 0#32
  let c10 : Index := 10#32
  let arg0 : BitVec 32 := BitVec.ofNat 32 (i 0).val
  let c2_i32_48 : BitVec 32 := 2#32
  let v96 : BitVec 32 := Scalar.muli arg0 c2_i32_48
  let v97 : BitVec 32 := Scalar.addi v96 c0_i32_49
  let v98 : Index := Scalar.indexCast v97
  ![0, 10, v98.toNat]
def k0_off18 (i : grid0.Coords) (c0_i32_53 : BitVec 32) : Fin 3 → Nat :=
  let c0_54 : Index := 0#32
  let c11 : Index := 11#32
  let arg0 : BitVec 32 := BitVec.ofNat 32 (i 0).val
  let c2_i32_52 : BitVec 32 := 2#32
  let v104 : BitVec 32 := Scalar.muli arg0 c2_i32_52
  let v105 : BitVec 32 := Scalar.addi v104 c0_i32_53
  let v106 : Index := Scalar.indexCast v105
  ![0, 11, v106.toNat]
def k0_off19 (i : grid0.Coords) (c0_i32_57 : BitVec 32) : Fin 3 → Nat :=
  let c0_58 : Index := 0#32
  let c12 : Index := 12#32
  let arg0 : BitVec 32 := BitVec.ofNat 32 (i 0).val
  let c2_i32_56 : BitVec 32 := 2#32
  let v112 : BitVec 32 := Scalar.muli arg0 c2_i32_56
  let v113 : BitVec 32 := Scalar.addi v112 c0_i32_57
  let v114 : Index := Scalar.indexCast v113
  ![0, 12, v114.toNat]
def k0_off20 (i : grid0.Coords) (c0_i32_61 : BitVec 32) : Fin 3 → Nat :=
  let c0_62 : Index := 0#32
  let c13 : Index := 13#32
  let arg0 : BitVec 32 := BitVec.ofNat 32 (i 0).val
  let c2_i32_60 : BitVec 32 := 2#32
  let v120 : BitVec 32 := Scalar.muli arg0 c2_i32_60
  let v121 : BitVec 32 := Scalar.addi v120 c0_i32_61
  let v122 : Index := Scalar.indexCast v121
  ![0, 13, v122.toNat]
def k0_off21 (i : grid0.Coords) (c0_i32_65 : BitVec 32) : Fin 3 → Nat :=
  let c0_66 : Index := 0#32
  let c14 : Index := 14#32
  let arg0 : BitVec 32 := BitVec.ofNat 32 (i 0).val
  let c2_i32_64 : BitVec 32 := 2#32
  let v128 : BitVec 32 := Scalar.muli arg0 c2_i32_64
  let v129 : BitVec 32 := Scalar.addi v128 c0_i32_65
  let v130 : Index := Scalar.indexCast v129
  ![0, 14, v130.toNat]
def k0_off22 (i : grid0.Coords) (c0_i32_69 : BitVec 32) : Fin 3 → Nat :=
  let c0_70 : Index := 0#32
  let c15 : Index := 15#32
  let arg0 : BitVec 32 := BitVec.ofNat 32 (i 0).val
  let c2_i32_68 : BitVec 32 := 2#32
  let v136 : BitVec 32 := Scalar.muli arg0 c2_i32_68
  let v137 : BitVec 32 := Scalar.addi v136 c0_i32_69
  let v138 : Index := Scalar.indexCast v137
  ![0, 15, v138.toNat]
def k0_off23 (i : grid0.Coords) (c0_i32_73 : BitVec 32) : Fin 3 → Nat :=
  let c0_74 : Index := 0#32
  let c16 : Index := 16#32
  let arg0 : BitVec 32 := BitVec.ofNat 32 (i 0).val
  let c2_i32_72 : BitVec 32 := 2#32
  let v144 : BitVec 32 := Scalar.muli arg0 c2_i32_72
  let v145 : BitVec 32 := Scalar.addi v144 c0_i32_73
  let v146 : Index := Scalar.indexCast v145
  ![0, 16, v146.toNat]
def k0_off24 (i : grid0.Coords) (c0_i32_77 : BitVec 32) : Fin 3 → Nat :=
  let c0_78 : Index := 0#32
  let c17 : Index := 17#32
  let arg0 : BitVec 32 := BitVec.ofNat 32 (i 0).val
  let c2_i32_76 : BitVec 32 := 2#32
  let v152 : BitVec 32 := Scalar.muli arg0 c2_i32_76
  let v153 : BitVec 32 := Scalar.addi v152 c0_i32_77
  let v154 : Index := Scalar.indexCast v153
  ![0, 17, v154.toNat]
def k0_off25 (i : grid0.Coords) (c0_i32_81 : BitVec 32) : Fin 3 → Nat :=
  let c0_82 : Index := 0#32
  let c18 : Index := 18#32
  let arg0 : BitVec 32 := BitVec.ofNat 32 (i 0).val
  let c2_i32_80 : BitVec 32 := 2#32
  let v160 : BitVec 32 := Scalar.muli arg0 c2_i32_80
  let v161 : BitVec 32 := Scalar.addi v160 c0_i32_81
  let v162 : Index := Scalar.indexCast v161
  ![0, 18, v162.toNat]
def k0_off26 (i : grid0.Coords) (c0_i32_85 : BitVec 32) : Fin 3 → Nat :=
  let c0_86 : Index := 0#32
  let c19 : Index := 19#32
  let arg0 : BitVec 32 := BitVec.ofNat 32 (i 0).val
  let c2_i32_84 : BitVec 32 := 2#32
  let v168 : BitVec 32 := Scalar.muli arg0 c2_i32_84
  let v169 : BitVec 32 := Scalar.addi v168 c0_i32_85
  let v170 : Index := Scalar.indexCast v169
  ![0, 19, v170.toNat]
def k0_off27 (i : grid0.Coords) (c0_i32_89 : BitVec 32) : Fin 3 → Nat :=
  let c0_90 : Index := 0#32
  let c20 : Index := 20#32
  let arg0 : BitVec 32 := BitVec.ofNat 32 (i 0).val
  let c2_i32_88 : BitVec 32 := 2#32
  let v176 : BitVec 32 := Scalar.muli arg0 c2_i32_88
  let v177 : BitVec 32 := Scalar.addi v176 c0_i32_89
  let v178 : Index := Scalar.indexCast v177
  ![0, 20, v178.toNat]
def k0_off28 (i : grid0.Coords) (c0_i32_93 : BitVec 32) : Fin 3 → Nat :=
  let c0_94 : Index := 0#32
  let c21 : Index := 21#32
  let arg0 : BitVec 32 := BitVec.ofNat 32 (i 0).val
  let c2_i32_92 : BitVec 32 := 2#32
  let v184 : BitVec 32 := Scalar.muli arg0 c2_i32_92
  let v185 : BitVec 32 := Scalar.addi v184 c0_i32_93
  let v186 : Index := Scalar.indexCast v185
  ![0, 21, v186.toNat]
def k0_off29 (i : grid0.Coords) (c0_i32_97 : BitVec 32) : Fin 3 → Nat :=
  let c0_98 : Index := 0#32
  let c22 : Index := 22#32
  let arg0 : BitVec 32 := BitVec.ofNat 32 (i 0).val
  let c2_i32_96 : BitVec 32 := 2#32
  let v192 : BitVec 32 := Scalar.muli arg0 c2_i32_96
  let v193 : BitVec 32 := Scalar.addi v192 c0_i32_97
  let v194 : Index := Scalar.indexCast v193
  ![0, 22, v194.toNat]
def k0_off30 (i : grid0.Coords) (c0_i32_101 : BitVec 32) : Fin 3 → Nat :=
  let c0_102 : Index := 0#32
  let c23 : Index := 23#32
  let arg0 : BitVec 32 := BitVec.ofNat 32 (i 0).val
  let c2_i32_100 : BitVec 32 := 2#32
  let v200 : BitVec 32 := Scalar.muli arg0 c2_i32_100
  let v201 : BitVec 32 := Scalar.addi v200 c0_i32_101
  let v202 : Index := Scalar.indexCast v201
  ![0, 23, v202.toNat]
def k0_off31 (i : grid0.Coords) (c0_i32_105 : BitVec 32) : Fin 3 → Nat :=
  let c0_106 : Index := 0#32
  let c24 : Index := 24#32
  let arg0 : BitVec 32 := BitVec.ofNat 32 (i 0).val
  let c2_i32_104 : BitVec 32 := 2#32
  let v208 : BitVec 32 := Scalar.muli arg0 c2_i32_104
  let v209 : BitVec 32 := Scalar.addi v208 c0_i32_105
  let v210 : Index := Scalar.indexCast v209
  ![0, 24, v210.toNat]
def k0_off32 (i : grid0.Coords) (c0_i32_109 : BitVec 32) : Fin 3 → Nat :=
  let c0_110 : Index := 0#32
  let c25 : Index := 25#32
  let arg0 : BitVec 32 := BitVec.ofNat 32 (i 0).val
  let c2_i32_108 : BitVec 32 := 2#32
  let v216 : BitVec 32 := Scalar.muli arg0 c2_i32_108
  let v217 : BitVec 32 := Scalar.addi v216 c0_i32_109
  let v218 : Index := Scalar.indexCast v217
  ![0, 25, v218.toNat]
def k0_off33 (i : grid0.Coords) (c0_i32_113 : BitVec 32) : Fin 3 → Nat :=
  let c0_114 : Index := 0#32
  let c26 : Index := 26#32
  let arg0 : BitVec 32 := BitVec.ofNat 32 (i 0).val
  let c2_i32_112 : BitVec 32 := 2#32
  let v224 : BitVec 32 := Scalar.muli arg0 c2_i32_112
  let v225 : BitVec 32 := Scalar.addi v224 c0_i32_113
  let v226 : Index := Scalar.indexCast v225
  ![0, 26, v226.toNat]
def k0_off34 (i : grid0.Coords) (c0_i32_117 : BitVec 32) : Fin 3 → Nat :=
  let c0_118 : Index := 0#32
  let c27 : Index := 27#32
  let arg0 : BitVec 32 := BitVec.ofNat 32 (i 0).val
  let c2_i32_116 : BitVec 32 := 2#32
  let v232 : BitVec 32 := Scalar.muli arg0 c2_i32_116
  let v233 : BitVec 32 := Scalar.addi v232 c0_i32_117
  let v234 : Index := Scalar.indexCast v233
  ![0, 27, v234.toNat]
def k0_off35 (i : grid0.Coords) (c0_i32_121 : BitVec 32) : Fin 3 → Nat :=
  let c0_122 : Index := 0#32
  let c28 : Index := 28#32
  let arg0 : BitVec 32 := BitVec.ofNat 32 (i 0).val
  let c2_i32_120 : BitVec 32 := 2#32
  let v240 : BitVec 32 := Scalar.muli arg0 c2_i32_120
  let v241 : BitVec 32 := Scalar.addi v240 c0_i32_121
  let v242 : Index := Scalar.indexCast v241
  ![0, 28, v242.toNat]
def k0_off36 (i : grid0.Coords) (c0_i32_125 : BitVec 32) : Fin 3 → Nat :=
  let c0_126 : Index := 0#32
  let c29 : Index := 29#32
  let arg0 : BitVec 32 := BitVec.ofNat 32 (i 0).val
  let c2_i32_124 : BitVec 32 := 2#32
  let v248 : BitVec 32 := Scalar.muli arg0 c2_i32_124
  let v249 : BitVec 32 := Scalar.addi v248 c0_i32_125
  let v250 : Index := Scalar.indexCast v249
  ![0, 29, v250.toNat]
def k0_off37 (i : grid0.Coords) (c0_i32_129 : BitVec 32) : Fin 3 → Nat :=
  let c0_130 : Index := 0#32
  let c30 : Index := 30#32
  let arg0 : BitVec 32 := BitVec.ofNat 32 (i 0).val
  let c2_i32_128 : BitVec 32 := 2#32
  let v256 : BitVec 32 := Scalar.muli arg0 c2_i32_128
  let v257 : BitVec 32 := Scalar.addi v256 c0_i32_129
  let v258 : Index := Scalar.indexCast v257
  ![0, 30, v258.toNat]
def k0_off38 (i : grid0.Coords) (c0_i32_133 : BitVec 32) : Fin 3 → Nat :=
  let c0_134 : Index := 0#32
  let c31 : Index := 31#32
  let arg0 : BitVec 32 := BitVec.ofNat 32 (i 0).val
  let c2_i32_132 : BitVec 32 := 2#32
  let v264 : BitVec 32 := Scalar.muli arg0 c2_i32_132
  let v265 : BitVec 32 := Scalar.addi v264 c0_i32_133
  let v266 : Index := Scalar.indexCast v265
  ![0, 31, v266.toNat]
def k0_off39 (i : grid0.Coords) (c0_i32_137 : BitVec 32) : Fin 3 → Nat :=
  let c0_138 : Index := 0#32
  let c32 : Index := 32#32
  let arg0 : BitVec 32 := BitVec.ofNat 32 (i 0).val
  let c2_i32_136 : BitVec 32 := 2#32
  let v272 : BitVec 32 := Scalar.muli arg0 c2_i32_136
  let v273 : BitVec 32 := Scalar.addi v272 c0_i32_137
  let v274 : Index := Scalar.indexCast v273
  ![0, 32, v274.toNat]
def k0_off40 (i : grid0.Coords) (c0_i32_141 : BitVec 32) : Fin 3 → Nat :=
  let c0_142 : Index := 0#32
  let c33 : Index := 33#32
  let arg0 : BitVec 32 := BitVec.ofNat 32 (i 0).val
  let c2_i32_140 : BitVec 32 := 2#32
  let v280 : BitVec 32 := Scalar.muli arg0 c2_i32_140
  let v281 : BitVec 32 := Scalar.addi v280 c0_i32_141
  let v282 : Index := Scalar.indexCast v281
  ![0, 33, v282.toNat]
def k0_off41 (i : grid0.Coords) (c0_i32_145 : BitVec 32) : Fin 3 → Nat :=
  let c0_146 : Index := 0#32
  let c34 : Index := 34#32
  let arg0 : BitVec 32 := BitVec.ofNat 32 (i 0).val
  let c2_i32_144 : BitVec 32 := 2#32
  let v288 : BitVec 32 := Scalar.muli arg0 c2_i32_144
  let v289 : BitVec 32 := Scalar.addi v288 c0_i32_145
  let v290 : Index := Scalar.indexCast v289
  ![0, 34, v290.toNat]
def k0_off42 (i : grid0.Coords) (c0_i32_149 : BitVec 32) : Fin 3 → Nat :=
  let c0_150 : Index := 0#32
  let c35 : Index := 35#32
  let arg0 : BitVec 32 := BitVec.ofNat 32 (i 0).val
  let c2_i32_148 : BitVec 32 := 2#32
  let v296 : BitVec 32 := Scalar.muli arg0 c2_i32_148
  let v297 : BitVec 32 := Scalar.addi v296 c0_i32_149
  let v298 : Index := Scalar.indexCast v297
  ![0, 35, v298.toNat]
def k0_off43 (i : grid0.Coords) (c0_i32_153 : BitVec 32) : Fin 3 → Nat :=
  let c0_154 : Index := 0#32
  let c36 : Index := 36#32
  let arg0 : BitVec 32 := BitVec.ofNat 32 (i 0).val
  let c2_i32_152 : BitVec 32 := 2#32
  let v304 : BitVec 32 := Scalar.muli arg0 c2_i32_152
  let v305 : BitVec 32 := Scalar.addi v304 c0_i32_153
  let v306 : Index := Scalar.indexCast v305
  ![0, 36, v306.toNat]
def k0_off44 (i : grid0.Coords) (c0_i32_157 : BitVec 32) : Fin 3 → Nat :=
  let c0_158 : Index := 0#32
  let c37 : Index := 37#32
  let arg0 : BitVec 32 := BitVec.ofNat 32 (i 0).val
  let c2_i32_156 : BitVec 32 := 2#32
  let v312 : BitVec 32 := Scalar.muli arg0 c2_i32_156
  let v313 : BitVec 32 := Scalar.addi v312 c0_i32_157
  let v314 : Index := Scalar.indexCast v313
  ![0, 37, v314.toNat]
def k0_off45 (i : grid0.Coords) (c0_i32_161 : BitVec 32) : Fin 3 → Nat :=
  let c0_162 : Index := 0#32
  let c38 : Index := 38#32
  let arg0 : BitVec 32 := BitVec.ofNat 32 (i 0).val
  let c2_i32_160 : BitVec 32 := 2#32
  let v320 : BitVec 32 := Scalar.muli arg0 c2_i32_160
  let v321 : BitVec 32 := Scalar.addi v320 c0_i32_161
  let v322 : Index := Scalar.indexCast v321
  ![0, 38, v322.toNat]
def k0_off46 (i : grid0.Coords) (c0_i32_165 : BitVec 32) : Fin 3 → Nat :=
  let c0_166 : Index := 0#32
  let c39 : Index := 39#32
  let arg0 : BitVec 32 := BitVec.ofNat 32 (i 0).val
  let c2_i32_164 : BitVec 32 := 2#32
  let v328 : BitVec 32 := Scalar.muli arg0 c2_i32_164
  let v329 : BitVec 32 := Scalar.addi v328 c0_i32_165
  let v330 : Index := Scalar.indexCast v329
  ![0, 39, v330.toNat]
def k0_off47 (i : grid0.Coords) (c0_i32_169 : BitVec 32) : Fin 3 → Nat :=
  let c0_170 : Index := 0#32
  let c40 : Index := 40#32
  let arg0 : BitVec 32 := BitVec.ofNat 32 (i 0).val
  let c2_i32_168 : BitVec 32 := 2#32
  let v336 : BitVec 32 := Scalar.muli arg0 c2_i32_168
  let v337 : BitVec 32 := Scalar.addi v336 c0_i32_169
  let v338 : Index := Scalar.indexCast v337
  ![0, 40, v338.toNat]
def k0_off48 (i : grid0.Coords) (c0_i32_173 : BitVec 32) : Fin 3 → Nat :=
  let c0_174 : Index := 0#32
  let c41 : Index := 41#32
  let arg0 : BitVec 32 := BitVec.ofNat 32 (i 0).val
  let c2_i32_172 : BitVec 32 := 2#32
  let v344 : BitVec 32 := Scalar.muli arg0 c2_i32_172
  let v345 : BitVec 32 := Scalar.addi v344 c0_i32_173
  let v346 : Index := Scalar.indexCast v345
  ![0, 41, v346.toNat]
def k0_off49 (i : grid0.Coords) (c0_i32_177 : BitVec 32) : Fin 3 → Nat :=
  let c0_178 : Index := 0#32
  let c42 : Index := 42#32
  let arg0 : BitVec 32 := BitVec.ofNat 32 (i 0).val
  let c2_i32_176 : BitVec 32 := 2#32
  let v352 : BitVec 32 := Scalar.muli arg0 c2_i32_176
  let v353 : BitVec 32 := Scalar.addi v352 c0_i32_177
  let v354 : Index := Scalar.indexCast v353
  ![0, 42, v354.toNat]
def k0_off50 (i : grid0.Coords) (c0_i32_181 : BitVec 32) : Fin 3 → Nat :=
  let c0_182 : Index := 0#32
  let c43 : Index := 43#32
  let arg0 : BitVec 32 := BitVec.ofNat 32 (i 0).val
  let c2_i32_180 : BitVec 32 := 2#32
  let v360 : BitVec 32 := Scalar.muli arg0 c2_i32_180
  let v361 : BitVec 32 := Scalar.addi v360 c0_i32_181
  let v362 : Index := Scalar.indexCast v361
  ![0, 43, v362.toNat]
def k0_off51 (i : grid0.Coords) (c0_i32_185 : BitVec 32) : Fin 3 → Nat :=
  let c0_186 : Index := 0#32
  let c44 : Index := 44#32
  let arg0 : BitVec 32 := BitVec.ofNat 32 (i 0).val
  let c2_i32_184 : BitVec 32 := 2#32
  let v368 : BitVec 32 := Scalar.muli arg0 c2_i32_184
  let v369 : BitVec 32 := Scalar.addi v368 c0_i32_185
  let v370 : Index := Scalar.indexCast v369
  ![0, 44, v370.toNat]
def k0_off52 (i : grid0.Coords) (c0_i32_189 : BitVec 32) : Fin 3 → Nat :=
  let c0_190 : Index := 0#32
  let c45 : Index := 45#32
  let arg0 : BitVec 32 := BitVec.ofNat 32 (i 0).val
  let c2_i32_188 : BitVec 32 := 2#32
  let v376 : BitVec 32 := Scalar.muli arg0 c2_i32_188
  let v377 : BitVec 32 := Scalar.addi v376 c0_i32_189
  let v378 : Index := Scalar.indexCast v377
  ![0, 45, v378.toNat]
def k0_off53 (i : grid0.Coords) (c0_i32_193 : BitVec 32) : Fin 3 → Nat :=
  let c0_194 : Index := 0#32
  let c46 : Index := 46#32
  let arg0 : BitVec 32 := BitVec.ofNat 32 (i 0).val
  let c2_i32_192 : BitVec 32 := 2#32
  let v384 : BitVec 32 := Scalar.muli arg0 c2_i32_192
  let v385 : BitVec 32 := Scalar.addi v384 c0_i32_193
  let v386 : Index := Scalar.indexCast v385
  ![0, 46, v386.toNat]
def k0_off54 (i : grid0.Coords) (c0_i32_197 : BitVec 32) : Fin 3 → Nat :=
  let c0_198 : Index := 0#32
  let c47 : Index := 47#32
  let arg0 : BitVec 32 := BitVec.ofNat 32 (i 0).val
  let c2_i32_196 : BitVec 32 := 2#32
  let v392 : BitVec 32 := Scalar.muli arg0 c2_i32_196
  let v393 : BitVec 32 := Scalar.addi v392 c0_i32_197
  let v394 : Index := Scalar.indexCast v393
  ![0, 47, v394.toNat]
def k0_off55 (i : grid0.Coords) (c0_i32_201 : BitVec 32) : Fin 3 → Nat :=
  let c0_202 : Index := 0#32
  let c48 : Index := 48#32
  let arg0 : BitVec 32 := BitVec.ofNat 32 (i 0).val
  let c2_i32_200 : BitVec 32 := 2#32
  let v400 : BitVec 32 := Scalar.muli arg0 c2_i32_200
  let v401 : BitVec 32 := Scalar.addi v400 c0_i32_201
  let v402 : Index := Scalar.indexCast v401
  ![0, 48, v402.toNat]
def k0_off56 (i : grid0.Coords) (c0_i32_205 : BitVec 32) : Fin 3 → Nat :=
  let c0_206 : Index := 0#32
  let c49 : Index := 49#32
  let arg0 : BitVec 32 := BitVec.ofNat 32 (i 0).val
  let c2_i32_204 : BitVec 32 := 2#32
  let v408 : BitVec 32 := Scalar.muli arg0 c2_i32_204
  let v409 : BitVec 32 := Scalar.addi v408 c0_i32_205
  let v410 : Index := Scalar.indexCast v409
  ![0, 49, v410.toNat]
def k0_off57 (i : grid0.Coords) (c0_i32_209 : BitVec 32) : Fin 3 → Nat :=
  let c0_210 : Index := 0#32
  let c50 : Index := 50#32
  let arg0 : BitVec 32 := BitVec.ofNat 32 (i 0).val
  let c2_i32_208 : BitVec 32 := 2#32
  let v416 : BitVec 32 := Scalar.muli arg0 c2_i32_208
  let v417 : BitVec 32 := Scalar.addi v416 c0_i32_209
  let v418 : Index := Scalar.indexCast v417
  ![0, 50, v418.toNat]
def k0_off58 (i : grid0.Coords) (c0_i32_213 : BitVec 32) : Fin 3 → Nat :=
  let c0_214 : Index := 0#32
  let c51 : Index := 51#32
  let arg0 : BitVec 32 := BitVec.ofNat 32 (i 0).val
  let c2_i32_212 : BitVec 32 := 2#32
  let v424 : BitVec 32 := Scalar.muli arg0 c2_i32_212
  let v425 : BitVec 32 := Scalar.addi v424 c0_i32_213
  let v426 : Index := Scalar.indexCast v425
  ![0, 51, v426.toNat]
def k0_off59 (i : grid0.Coords) (c0_i32_217 : BitVec 32) : Fin 3 → Nat :=
  let c0_218 : Index := 0#32
  let c52 : Index := 52#32
  let arg0 : BitVec 32 := BitVec.ofNat 32 (i 0).val
  let c2_i32_216 : BitVec 32 := 2#32
  let v432 : BitVec 32 := Scalar.muli arg0 c2_i32_216
  let v433 : BitVec 32 := Scalar.addi v432 c0_i32_217
  let v434 : Index := Scalar.indexCast v433
  ![0, 52, v434.toNat]
def k0_off60 (i : grid0.Coords) (c0_i32_221 : BitVec 32) : Fin 3 → Nat :=
  let c0_222 : Index := 0#32
  let c53 : Index := 53#32
  let arg0 : BitVec 32 := BitVec.ofNat 32 (i 0).val
  let c2_i32_220 : BitVec 32 := 2#32
  let v440 : BitVec 32 := Scalar.muli arg0 c2_i32_220
  let v441 : BitVec 32 := Scalar.addi v440 c0_i32_221
  let v442 : Index := Scalar.indexCast v441
  ![0, 53, v442.toNat]
def k0_off61 (i : grid0.Coords) (c0_i32_225 : BitVec 32) : Fin 3 → Nat :=
  let c0_226 : Index := 0#32
  let c54 : Index := 54#32
  let arg0 : BitVec 32 := BitVec.ofNat 32 (i 0).val
  let c2_i32_224 : BitVec 32 := 2#32
  let v448 : BitVec 32 := Scalar.muli arg0 c2_i32_224
  let v449 : BitVec 32 := Scalar.addi v448 c0_i32_225
  let v450 : Index := Scalar.indexCast v449
  ![0, 54, v450.toNat]
def k0_off62 (i : grid0.Coords) (c0_i32_229 : BitVec 32) : Fin 3 → Nat :=
  let c0_230 : Index := 0#32
  let c55 : Index := 55#32
  let arg0 : BitVec 32 := BitVec.ofNat 32 (i 0).val
  let c2_i32_228 : BitVec 32 := 2#32
  let v456 : BitVec 32 := Scalar.muli arg0 c2_i32_228
  let v457 : BitVec 32 := Scalar.addi v456 c0_i32_229
  let v458 : Index := Scalar.indexCast v457
  ![0, 55, v458.toNat]
def k0_off63 (i : grid0.Coords) : Fin 4 → Nat :=
  let arg0 : BitVec 32 := BitVec.ofNat 32 (i 0).val
  let c4_i32_2 : BitVec 32 := 4#32
  let v8 : BitVec 32 := Scalar.remsi arg0 c4_i32_2
  let v915 : Index := Scalar.indexCast v8
  let c0_568 : Index := 0#32
  let c0_569 : Index := 0#32
  let c0_570 : Index := 0#32
  ![v915.toNat, 0, 0, 0]
def k0_off64 (i : grid0.Coords) (c0_i32_572 : BitVec 32) : Fin 3 → Nat :=
  let c1_573 : Index := 1#32
  let c0_574 : Index := 0#32
  let arg0 : BitVec 32 := BitVec.ofNat 32 (i 0).val
  let c2_i32_571 : BitVec 32 := 2#32
  let v921 : BitVec 32 := Scalar.muli arg0 c2_i32_571
  let v922 : BitVec 32 := Scalar.addi v921 c0_i32_572
  let v923 : Index := Scalar.indexCast v922
  ![1, 0, v923.toNat]
def k0_off65 (i : grid0.Coords) (c0_i32_578 : BitVec 32) : Fin 3 → Nat :=
  let c1_579 : Index := 1#32
  let c1_580 : Index := 1#32
  let arg0 : BitVec 32 := BitVec.ofNat 32 (i 0).val
  let c2_i32_577 : BitVec 32 := 2#32
  let v929 : BitVec 32 := Scalar.muli arg0 c2_i32_577
  let v930 : BitVec 32 := Scalar.addi v929 c0_i32_578
  let v931 : Index := Scalar.indexCast v930
  ![1, 1, v931.toNat]
def k0_off66 (i : grid0.Coords) (c0_i32_584 : BitVec 32) : Fin 3 → Nat :=
  let c1_585 : Index := 1#32
  let c2_586 : Index := 2#32
  let arg0 : BitVec 32 := BitVec.ofNat 32 (i 0).val
  let c2_i32_583 : BitVec 32 := 2#32
  let v937 : BitVec 32 := Scalar.muli arg0 c2_i32_583
  let v938 : BitVec 32 := Scalar.addi v937 c0_i32_584
  let v939 : Index := Scalar.indexCast v938
  ![1, 2, v939.toNat]
def k0_off67 (i : grid0.Coords) (c0_i32_590 : BitVec 32) : Fin 3 → Nat :=
  let c1_591 : Index := 1#32
  let c3_592 : Index := 3#32
  let arg0 : BitVec 32 := BitVec.ofNat 32 (i 0).val
  let c2_i32_589 : BitVec 32 := 2#32
  let v945 : BitVec 32 := Scalar.muli arg0 c2_i32_589
  let v946 : BitVec 32 := Scalar.addi v945 c0_i32_590
  let v947 : Index := Scalar.indexCast v946
  ![1, 3, v947.toNat]
def k0_off68 (i : grid0.Coords) (c0_i32_596 : BitVec 32) : Fin 3 → Nat :=
  let c1_597 : Index := 1#32
  let c4_598 : Index := 4#32
  let arg0 : BitVec 32 := BitVec.ofNat 32 (i 0).val
  let c2_i32_595 : BitVec 32 := 2#32
  let v953 : BitVec 32 := Scalar.muli arg0 c2_i32_595
  let v954 : BitVec 32 := Scalar.addi v953 c0_i32_596
  let v955 : Index := Scalar.indexCast v954
  ![1, 4, v955.toNat]
def k0_off69 (i : grid0.Coords) (c0_i32_602 : BitVec 32) : Fin 3 → Nat :=
  let c1_603 : Index := 1#32
  let c5_604 : Index := 5#32
  let arg0 : BitVec 32 := BitVec.ofNat 32 (i 0).val
  let c2_i32_601 : BitVec 32 := 2#32
  let v961 : BitVec 32 := Scalar.muli arg0 c2_i32_601
  let v962 : BitVec 32 := Scalar.addi v961 c0_i32_602
  let v963 : Index := Scalar.indexCast v962
  ![1, 5, v963.toNat]
def k0_off70 (i : grid0.Coords) (c0_i32_608 : BitVec 32) : Fin 3 → Nat :=
  let c1_609 : Index := 1#32
  let c6_610 : Index := 6#32
  let arg0 : BitVec 32 := BitVec.ofNat 32 (i 0).val
  let c2_i32_607 : BitVec 32 := 2#32
  let v969 : BitVec 32 := Scalar.muli arg0 c2_i32_607
  let v970 : BitVec 32 := Scalar.addi v969 c0_i32_608
  let v971 : Index := Scalar.indexCast v970
  ![1, 6, v971.toNat]
def k0_off71 (i : grid0.Coords) (c0_i32_614 : BitVec 32) : Fin 3 → Nat :=
  let c1_615 : Index := 1#32
  let c7_616 : Index := 7#32
  let arg0 : BitVec 32 := BitVec.ofNat 32 (i 0).val
  let c2_i32_613 : BitVec 32 := 2#32
  let v977 : BitVec 32 := Scalar.muli arg0 c2_i32_613
  let v978 : BitVec 32 := Scalar.addi v977 c0_i32_614
  let v979 : Index := Scalar.indexCast v978
  ![1, 7, v979.toNat]
def k0_off72 (i : grid0.Coords) (c0_i32_620 : BitVec 32) : Fin 3 → Nat :=
  let c1_621 : Index := 1#32
  let c8_622 : Index := 8#32
  let arg0 : BitVec 32 := BitVec.ofNat 32 (i 0).val
  let c2_i32_619 : BitVec 32 := 2#32
  let v985 : BitVec 32 := Scalar.muli arg0 c2_i32_619
  let v986 : BitVec 32 := Scalar.addi v985 c0_i32_620
  let v987 : Index := Scalar.indexCast v986
  ![1, 8, v987.toNat]
def k0_off73 (i : grid0.Coords) (c0_i32_626 : BitVec 32) : Fin 3 → Nat :=
  let c1_627 : Index := 1#32
  let c9_628 : Index := 9#32
  let arg0 : BitVec 32 := BitVec.ofNat 32 (i 0).val
  let c2_i32_625 : BitVec 32 := 2#32
  let v993 : BitVec 32 := Scalar.muli arg0 c2_i32_625
  let v994 : BitVec 32 := Scalar.addi v993 c0_i32_626
  let v995 : Index := Scalar.indexCast v994
  ![1, 9, v995.toNat]
def k0_off74 (i : grid0.Coords) (c0_i32_632 : BitVec 32) : Fin 3 → Nat :=
  let c1_633 : Index := 1#32
  let c10_634 : Index := 10#32
  let arg0 : BitVec 32 := BitVec.ofNat 32 (i 0).val
  let c2_i32_631 : BitVec 32 := 2#32
  let v1001 : BitVec 32 := Scalar.muli arg0 c2_i32_631
  let v1002 : BitVec 32 := Scalar.addi v1001 c0_i32_632
  let v1003 : Index := Scalar.indexCast v1002
  ![1, 10, v1003.toNat]
def k0_off75 (i : grid0.Coords) (c0_i32_638 : BitVec 32) : Fin 3 → Nat :=
  let c1_639 : Index := 1#32
  let c11_640 : Index := 11#32
  let arg0 : BitVec 32 := BitVec.ofNat 32 (i 0).val
  let c2_i32_637 : BitVec 32 := 2#32
  let v1009 : BitVec 32 := Scalar.muli arg0 c2_i32_637
  let v1010 : BitVec 32 := Scalar.addi v1009 c0_i32_638
  let v1011 : Index := Scalar.indexCast v1010
  ![1, 11, v1011.toNat]
def k0_off76 (i : grid0.Coords) (c0_i32_644 : BitVec 32) : Fin 3 → Nat :=
  let c1_645 : Index := 1#32
  let c12_646 : Index := 12#32
  let arg0 : BitVec 32 := BitVec.ofNat 32 (i 0).val
  let c2_i32_643 : BitVec 32 := 2#32
  let v1017 : BitVec 32 := Scalar.muli arg0 c2_i32_643
  let v1018 : BitVec 32 := Scalar.addi v1017 c0_i32_644
  let v1019 : Index := Scalar.indexCast v1018
  ![1, 12, v1019.toNat]
def k0_off77 (i : grid0.Coords) (c0_i32_650 : BitVec 32) : Fin 3 → Nat :=
  let c1_651 : Index := 1#32
  let c13_652 : Index := 13#32
  let arg0 : BitVec 32 := BitVec.ofNat 32 (i 0).val
  let c2_i32_649 : BitVec 32 := 2#32
  let v1025 : BitVec 32 := Scalar.muli arg0 c2_i32_649
  let v1026 : BitVec 32 := Scalar.addi v1025 c0_i32_650
  let v1027 : Index := Scalar.indexCast v1026
  ![1, 13, v1027.toNat]
def k0_off78 (i : grid0.Coords) (c0_i32_656 : BitVec 32) : Fin 3 → Nat :=
  let c1_657 : Index := 1#32
  let c14_658 : Index := 14#32
  let arg0 : BitVec 32 := BitVec.ofNat 32 (i 0).val
  let c2_i32_655 : BitVec 32 := 2#32
  let v1033 : BitVec 32 := Scalar.muli arg0 c2_i32_655
  let v1034 : BitVec 32 := Scalar.addi v1033 c0_i32_656
  let v1035 : Index := Scalar.indexCast v1034
  ![1, 14, v1035.toNat]
def k0_off79 (i : grid0.Coords) (c0_i32_662 : BitVec 32) : Fin 3 → Nat :=
  let c1_663 : Index := 1#32
  let c15_664 : Index := 15#32
  let arg0 : BitVec 32 := BitVec.ofNat 32 (i 0).val
  let c2_i32_661 : BitVec 32 := 2#32
  let v1041 : BitVec 32 := Scalar.muli arg0 c2_i32_661
  let v1042 : BitVec 32 := Scalar.addi v1041 c0_i32_662
  let v1043 : Index := Scalar.indexCast v1042
  ![1, 15, v1043.toNat]
def k0_off80 (i : grid0.Coords) (c0_i32_668 : BitVec 32) : Fin 3 → Nat :=
  let c1_669 : Index := 1#32
  let c16_670 : Index := 16#32
  let arg0 : BitVec 32 := BitVec.ofNat 32 (i 0).val
  let c2_i32_667 : BitVec 32 := 2#32
  let v1049 : BitVec 32 := Scalar.muli arg0 c2_i32_667
  let v1050 : BitVec 32 := Scalar.addi v1049 c0_i32_668
  let v1051 : Index := Scalar.indexCast v1050
  ![1, 16, v1051.toNat]
def k0_off81 (i : grid0.Coords) (c0_i32_674 : BitVec 32) : Fin 3 → Nat :=
  let c1_675 : Index := 1#32
  let c17_676 : Index := 17#32
  let arg0 : BitVec 32 := BitVec.ofNat 32 (i 0).val
  let c2_i32_673 : BitVec 32 := 2#32
  let v1057 : BitVec 32 := Scalar.muli arg0 c2_i32_673
  let v1058 : BitVec 32 := Scalar.addi v1057 c0_i32_674
  let v1059 : Index := Scalar.indexCast v1058
  ![1, 17, v1059.toNat]
def k0_off82 (i : grid0.Coords) (c0_i32_680 : BitVec 32) : Fin 3 → Nat :=
  let c1_681 : Index := 1#32
  let c18_682 : Index := 18#32
  let arg0 : BitVec 32 := BitVec.ofNat 32 (i 0).val
  let c2_i32_679 : BitVec 32 := 2#32
  let v1065 : BitVec 32 := Scalar.muli arg0 c2_i32_679
  let v1066 : BitVec 32 := Scalar.addi v1065 c0_i32_680
  let v1067 : Index := Scalar.indexCast v1066
  ![1, 18, v1067.toNat]
def k0_off83 (i : grid0.Coords) (c0_i32_686 : BitVec 32) : Fin 3 → Nat :=
  let c1_687 : Index := 1#32
  let c19_688 : Index := 19#32
  let arg0 : BitVec 32 := BitVec.ofNat 32 (i 0).val
  let c2_i32_685 : BitVec 32 := 2#32
  let v1073 : BitVec 32 := Scalar.muli arg0 c2_i32_685
  let v1074 : BitVec 32 := Scalar.addi v1073 c0_i32_686
  let v1075 : Index := Scalar.indexCast v1074
  ![1, 19, v1075.toNat]
def k0_off84 (i : grid0.Coords) (c0_i32_692 : BitVec 32) : Fin 3 → Nat :=
  let c1_693 : Index := 1#32
  let c20_694 : Index := 20#32
  let arg0 : BitVec 32 := BitVec.ofNat 32 (i 0).val
  let c2_i32_691 : BitVec 32 := 2#32
  let v1081 : BitVec 32 := Scalar.muli arg0 c2_i32_691
  let v1082 : BitVec 32 := Scalar.addi v1081 c0_i32_692
  let v1083 : Index := Scalar.indexCast v1082
  ![1, 20, v1083.toNat]
def k0_off85 (i : grid0.Coords) (c0_i32_698 : BitVec 32) : Fin 3 → Nat :=
  let c1_699 : Index := 1#32
  let c21_700 : Index := 21#32
  let arg0 : BitVec 32 := BitVec.ofNat 32 (i 0).val
  let c2_i32_697 : BitVec 32 := 2#32
  let v1089 : BitVec 32 := Scalar.muli arg0 c2_i32_697
  let v1090 : BitVec 32 := Scalar.addi v1089 c0_i32_698
  let v1091 : Index := Scalar.indexCast v1090
  ![1, 21, v1091.toNat]
def k0_off86 (i : grid0.Coords) (c0_i32_704 : BitVec 32) : Fin 3 → Nat :=
  let c1_705 : Index := 1#32
  let c22_706 : Index := 22#32
  let arg0 : BitVec 32 := BitVec.ofNat 32 (i 0).val
  let c2_i32_703 : BitVec 32 := 2#32
  let v1097 : BitVec 32 := Scalar.muli arg0 c2_i32_703
  let v1098 : BitVec 32 := Scalar.addi v1097 c0_i32_704
  let v1099 : Index := Scalar.indexCast v1098
  ![1, 22, v1099.toNat]
def k0_off87 (i : grid0.Coords) (c0_i32_710 : BitVec 32) : Fin 3 → Nat :=
  let c1_711 : Index := 1#32
  let c23_712 : Index := 23#32
  let arg0 : BitVec 32 := BitVec.ofNat 32 (i 0).val
  let c2_i32_709 : BitVec 32 := 2#32
  let v1105 : BitVec 32 := Scalar.muli arg0 c2_i32_709
  let v1106 : BitVec 32 := Scalar.addi v1105 c0_i32_710
  let v1107 : Index := Scalar.indexCast v1106
  ![1, 23, v1107.toNat]
def k0_off88 (i : grid0.Coords) (c0_i32_716 : BitVec 32) : Fin 3 → Nat :=
  let c1_717 : Index := 1#32
  let c24_718 : Index := 24#32
  let arg0 : BitVec 32 := BitVec.ofNat 32 (i 0).val
  let c2_i32_715 : BitVec 32 := 2#32
  let v1113 : BitVec 32 := Scalar.muli arg0 c2_i32_715
  let v1114 : BitVec 32 := Scalar.addi v1113 c0_i32_716
  let v1115 : Index := Scalar.indexCast v1114
  ![1, 24, v1115.toNat]
def k0_off89 (i : grid0.Coords) (c0_i32_722 : BitVec 32) : Fin 3 → Nat :=
  let c1_723 : Index := 1#32
  let c25_724 : Index := 25#32
  let arg0 : BitVec 32 := BitVec.ofNat 32 (i 0).val
  let c2_i32_721 : BitVec 32 := 2#32
  let v1121 : BitVec 32 := Scalar.muli arg0 c2_i32_721
  let v1122 : BitVec 32 := Scalar.addi v1121 c0_i32_722
  let v1123 : Index := Scalar.indexCast v1122
  ![1, 25, v1123.toNat]
def k0_off90 (i : grid0.Coords) (c0_i32_728 : BitVec 32) : Fin 3 → Nat :=
  let c1_729 : Index := 1#32
  let c26_730 : Index := 26#32
  let arg0 : BitVec 32 := BitVec.ofNat 32 (i 0).val
  let c2_i32_727 : BitVec 32 := 2#32
  let v1129 : BitVec 32 := Scalar.muli arg0 c2_i32_727
  let v1130 : BitVec 32 := Scalar.addi v1129 c0_i32_728
  let v1131 : Index := Scalar.indexCast v1130
  ![1, 26, v1131.toNat]
def k0_off91 (i : grid0.Coords) (c0_i32_734 : BitVec 32) : Fin 3 → Nat :=
  let c1_735 : Index := 1#32
  let c27_736 : Index := 27#32
  let arg0 : BitVec 32 := BitVec.ofNat 32 (i 0).val
  let c2_i32_733 : BitVec 32 := 2#32
  let v1137 : BitVec 32 := Scalar.muli arg0 c2_i32_733
  let v1138 : BitVec 32 := Scalar.addi v1137 c0_i32_734
  let v1139 : Index := Scalar.indexCast v1138
  ![1, 27, v1139.toNat]
def k0_off92 (i : grid0.Coords) (c0_i32_740 : BitVec 32) : Fin 3 → Nat :=
  let c1_741 : Index := 1#32
  let c28_742 : Index := 28#32
  let arg0 : BitVec 32 := BitVec.ofNat 32 (i 0).val
  let c2_i32_739 : BitVec 32 := 2#32
  let v1145 : BitVec 32 := Scalar.muli arg0 c2_i32_739
  let v1146 : BitVec 32 := Scalar.addi v1145 c0_i32_740
  let v1147 : Index := Scalar.indexCast v1146
  ![1, 28, v1147.toNat]
def k0_off93 (i : grid0.Coords) (c0_i32_746 : BitVec 32) : Fin 3 → Nat :=
  let c1_747 : Index := 1#32
  let c29_748 : Index := 29#32
  let arg0 : BitVec 32 := BitVec.ofNat 32 (i 0).val
  let c2_i32_745 : BitVec 32 := 2#32
  let v1153 : BitVec 32 := Scalar.muli arg0 c2_i32_745
  let v1154 : BitVec 32 := Scalar.addi v1153 c0_i32_746
  let v1155 : Index := Scalar.indexCast v1154
  ![1, 29, v1155.toNat]
def k0_off94 (i : grid0.Coords) (c0_i32_752 : BitVec 32) : Fin 3 → Nat :=
  let c1_753 : Index := 1#32
  let c30_754 : Index := 30#32
  let arg0 : BitVec 32 := BitVec.ofNat 32 (i 0).val
  let c2_i32_751 : BitVec 32 := 2#32
  let v1161 : BitVec 32 := Scalar.muli arg0 c2_i32_751
  let v1162 : BitVec 32 := Scalar.addi v1161 c0_i32_752
  let v1163 : Index := Scalar.indexCast v1162
  ![1, 30, v1163.toNat]
def k0_off95 (i : grid0.Coords) (c0_i32_758 : BitVec 32) : Fin 3 → Nat :=
  let c1_759 : Index := 1#32
  let c31_760 : Index := 31#32
  let arg0 : BitVec 32 := BitVec.ofNat 32 (i 0).val
  let c2_i32_757 : BitVec 32 := 2#32
  let v1169 : BitVec 32 := Scalar.muli arg0 c2_i32_757
  let v1170 : BitVec 32 := Scalar.addi v1169 c0_i32_758
  let v1171 : Index := Scalar.indexCast v1170
  ![1, 31, v1171.toNat]
def k0_off96 (i : grid0.Coords) (c0_i32_764 : BitVec 32) : Fin 3 → Nat :=
  let c1_765 : Index := 1#32
  let c32_766 : Index := 32#32
  let arg0 : BitVec 32 := BitVec.ofNat 32 (i 0).val
  let c2_i32_763 : BitVec 32 := 2#32
  let v1177 : BitVec 32 := Scalar.muli arg0 c2_i32_763
  let v1178 : BitVec 32 := Scalar.addi v1177 c0_i32_764
  let v1179 : Index := Scalar.indexCast v1178
  ![1, 32, v1179.toNat]
def k0_off97 (i : grid0.Coords) (c0_i32_770 : BitVec 32) : Fin 3 → Nat :=
  let c1_771 : Index := 1#32
  let c33_772 : Index := 33#32
  let arg0 : BitVec 32 := BitVec.ofNat 32 (i 0).val
  let c2_i32_769 : BitVec 32 := 2#32
  let v1185 : BitVec 32 := Scalar.muli arg0 c2_i32_769
  let v1186 : BitVec 32 := Scalar.addi v1185 c0_i32_770
  let v1187 : Index := Scalar.indexCast v1186
  ![1, 33, v1187.toNat]
def k0_off98 (i : grid0.Coords) (c0_i32_776 : BitVec 32) : Fin 3 → Nat :=
  let c1_777 : Index := 1#32
  let c34_778 : Index := 34#32
  let arg0 : BitVec 32 := BitVec.ofNat 32 (i 0).val
  let c2_i32_775 : BitVec 32 := 2#32
  let v1193 : BitVec 32 := Scalar.muli arg0 c2_i32_775
  let v1194 : BitVec 32 := Scalar.addi v1193 c0_i32_776
  let v1195 : Index := Scalar.indexCast v1194
  ![1, 34, v1195.toNat]
def k0_off99 (i : grid0.Coords) (c0_i32_782 : BitVec 32) : Fin 3 → Nat :=
  let c1_783 : Index := 1#32
  let c35_784 : Index := 35#32
  let arg0 : BitVec 32 := BitVec.ofNat 32 (i 0).val
  let c2_i32_781 : BitVec 32 := 2#32
  let v1201 : BitVec 32 := Scalar.muli arg0 c2_i32_781
  let v1202 : BitVec 32 := Scalar.addi v1201 c0_i32_782
  let v1203 : Index := Scalar.indexCast v1202
  ![1, 35, v1203.toNat]
def k0_off100 (i : grid0.Coords) (c0_i32_788 : BitVec 32) : Fin 3 → Nat :=
  let c1_789 : Index := 1#32
  let c36_790 : Index := 36#32
  let arg0 : BitVec 32 := BitVec.ofNat 32 (i 0).val
  let c2_i32_787 : BitVec 32 := 2#32
  let v1209 : BitVec 32 := Scalar.muli arg0 c2_i32_787
  let v1210 : BitVec 32 := Scalar.addi v1209 c0_i32_788
  let v1211 : Index := Scalar.indexCast v1210
  ![1, 36, v1211.toNat]
def k0_off101 (i : grid0.Coords) (c0_i32_794 : BitVec 32) : Fin 3 → Nat :=
  let c1_795 : Index := 1#32
  let c37_796 : Index := 37#32
  let arg0 : BitVec 32 := BitVec.ofNat 32 (i 0).val
  let c2_i32_793 : BitVec 32 := 2#32
  let v1217 : BitVec 32 := Scalar.muli arg0 c2_i32_793
  let v1218 : BitVec 32 := Scalar.addi v1217 c0_i32_794
  let v1219 : Index := Scalar.indexCast v1218
  ![1, 37, v1219.toNat]
def k0_off102 (i : grid0.Coords) (c0_i32_800 : BitVec 32) : Fin 3 → Nat :=
  let c1_801 : Index := 1#32
  let c38_802 : Index := 38#32
  let arg0 : BitVec 32 := BitVec.ofNat 32 (i 0).val
  let c2_i32_799 : BitVec 32 := 2#32
  let v1225 : BitVec 32 := Scalar.muli arg0 c2_i32_799
  let v1226 : BitVec 32 := Scalar.addi v1225 c0_i32_800
  let v1227 : Index := Scalar.indexCast v1226
  ![1, 38, v1227.toNat]
def k0_off103 (i : grid0.Coords) (c0_i32_806 : BitVec 32) : Fin 3 → Nat :=
  let c1_807 : Index := 1#32
  let c39_808 : Index := 39#32
  let arg0 : BitVec 32 := BitVec.ofNat 32 (i 0).val
  let c2_i32_805 : BitVec 32 := 2#32
  let v1233 : BitVec 32 := Scalar.muli arg0 c2_i32_805
  let v1234 : BitVec 32 := Scalar.addi v1233 c0_i32_806
  let v1235 : Index := Scalar.indexCast v1234
  ![1, 39, v1235.toNat]
def k0_off104 (i : grid0.Coords) (c0_i32_812 : BitVec 32) : Fin 3 → Nat :=
  let c1_813 : Index := 1#32
  let c40_814 : Index := 40#32
  let arg0 : BitVec 32 := BitVec.ofNat 32 (i 0).val
  let c2_i32_811 : BitVec 32 := 2#32
  let v1241 : BitVec 32 := Scalar.muli arg0 c2_i32_811
  let v1242 : BitVec 32 := Scalar.addi v1241 c0_i32_812
  let v1243 : Index := Scalar.indexCast v1242
  ![1, 40, v1243.toNat]
def k0_off105 (i : grid0.Coords) (c0_i32_818 : BitVec 32) : Fin 3 → Nat :=
  let c1_819 : Index := 1#32
  let c41_820 : Index := 41#32
  let arg0 : BitVec 32 := BitVec.ofNat 32 (i 0).val
  let c2_i32_817 : BitVec 32 := 2#32
  let v1249 : BitVec 32 := Scalar.muli arg0 c2_i32_817
  let v1250 : BitVec 32 := Scalar.addi v1249 c0_i32_818
  let v1251 : Index := Scalar.indexCast v1250
  ![1, 41, v1251.toNat]
def k0_off106 (i : grid0.Coords) (c0_i32_824 : BitVec 32) : Fin 3 → Nat :=
  let c1_825 : Index := 1#32
  let c42_826 : Index := 42#32
  let arg0 : BitVec 32 := BitVec.ofNat 32 (i 0).val
  let c2_i32_823 : BitVec 32 := 2#32
  let v1257 : BitVec 32 := Scalar.muli arg0 c2_i32_823
  let v1258 : BitVec 32 := Scalar.addi v1257 c0_i32_824
  let v1259 : Index := Scalar.indexCast v1258
  ![1, 42, v1259.toNat]
def k0_off107 (i : grid0.Coords) (c0_i32_830 : BitVec 32) : Fin 3 → Nat :=
  let c1_831 : Index := 1#32
  let c43_832 : Index := 43#32
  let arg0 : BitVec 32 := BitVec.ofNat 32 (i 0).val
  let c2_i32_829 : BitVec 32 := 2#32
  let v1265 : BitVec 32 := Scalar.muli arg0 c2_i32_829
  let v1266 : BitVec 32 := Scalar.addi v1265 c0_i32_830
  let v1267 : Index := Scalar.indexCast v1266
  ![1, 43, v1267.toNat]
def k0_off108 (i : grid0.Coords) (c0_i32_836 : BitVec 32) : Fin 3 → Nat :=
  let c1_837 : Index := 1#32
  let c44_838 : Index := 44#32
  let arg0 : BitVec 32 := BitVec.ofNat 32 (i 0).val
  let c2_i32_835 : BitVec 32 := 2#32
  let v1273 : BitVec 32 := Scalar.muli arg0 c2_i32_835
  let v1274 : BitVec 32 := Scalar.addi v1273 c0_i32_836
  let v1275 : Index := Scalar.indexCast v1274
  ![1, 44, v1275.toNat]
def k0_off109 (i : grid0.Coords) (c0_i32_842 : BitVec 32) : Fin 3 → Nat :=
  let c1_843 : Index := 1#32
  let c45_844 : Index := 45#32
  let arg0 : BitVec 32 := BitVec.ofNat 32 (i 0).val
  let c2_i32_841 : BitVec 32 := 2#32
  let v1281 : BitVec 32 := Scalar.muli arg0 c2_i32_841
  let v1282 : BitVec 32 := Scalar.addi v1281 c0_i32_842
  let v1283 : Index := Scalar.indexCast v1282
  ![1, 45, v1283.toNat]
def k0_off110 (i : grid0.Coords) (c0_i32_848 : BitVec 32) : Fin 3 → Nat :=
  let c1_849 : Index := 1#32
  let c46_850 : Index := 46#32
  let arg0 : BitVec 32 := BitVec.ofNat 32 (i 0).val
  let c2_i32_847 : BitVec 32 := 2#32
  let v1289 : BitVec 32 := Scalar.muli arg0 c2_i32_847
  let v1290 : BitVec 32 := Scalar.addi v1289 c0_i32_848
  let v1291 : Index := Scalar.indexCast v1290
  ![1, 46, v1291.toNat]
def k0_off111 (i : grid0.Coords) (c0_i32_854 : BitVec 32) : Fin 3 → Nat :=
  let c1_855 : Index := 1#32
  let c47_856 : Index := 47#32
  let arg0 : BitVec 32 := BitVec.ofNat 32 (i 0).val
  let c2_i32_853 : BitVec 32 := 2#32
  let v1297 : BitVec 32 := Scalar.muli arg0 c2_i32_853
  let v1298 : BitVec 32 := Scalar.addi v1297 c0_i32_854
  let v1299 : Index := Scalar.indexCast v1298
  ![1, 47, v1299.toNat]
def k0_off112 (i : grid0.Coords) (c0_i32_860 : BitVec 32) : Fin 3 → Nat :=
  let c1_861 : Index := 1#32
  let c48_862 : Index := 48#32
  let arg0 : BitVec 32 := BitVec.ofNat 32 (i 0).val
  let c2_i32_859 : BitVec 32 := 2#32
  let v1305 : BitVec 32 := Scalar.muli arg0 c2_i32_859
  let v1306 : BitVec 32 := Scalar.addi v1305 c0_i32_860
  let v1307 : Index := Scalar.indexCast v1306
  ![1, 48, v1307.toNat]
def k0_off113 (i : grid0.Coords) (c0_i32_866 : BitVec 32) : Fin 3 → Nat :=
  let c1_867 : Index := 1#32
  let c49_868 : Index := 49#32
  let arg0 : BitVec 32 := BitVec.ofNat 32 (i 0).val
  let c2_i32_865 : BitVec 32 := 2#32
  let v1313 : BitVec 32 := Scalar.muli arg0 c2_i32_865
  let v1314 : BitVec 32 := Scalar.addi v1313 c0_i32_866
  let v1315 : Index := Scalar.indexCast v1314
  ![1, 49, v1315.toNat]
def k0_off114 (i : grid0.Coords) (c0_i32_872 : BitVec 32) : Fin 3 → Nat :=
  let c1_873 : Index := 1#32
  let c50_874 : Index := 50#32
  let arg0 : BitVec 32 := BitVec.ofNat 32 (i 0).val
  let c2_i32_871 : BitVec 32 := 2#32
  let v1321 : BitVec 32 := Scalar.muli arg0 c2_i32_871
  let v1322 : BitVec 32 := Scalar.addi v1321 c0_i32_872
  let v1323 : Index := Scalar.indexCast v1322
  ![1, 50, v1323.toNat]
def k0_off115 (i : grid0.Coords) (c0_i32_878 : BitVec 32) : Fin 3 → Nat :=
  let c1_879 : Index := 1#32
  let c51_880 : Index := 51#32
  let arg0 : BitVec 32 := BitVec.ofNat 32 (i 0).val
  let c2_i32_877 : BitVec 32 := 2#32
  let v1329 : BitVec 32 := Scalar.muli arg0 c2_i32_877
  let v1330 : BitVec 32 := Scalar.addi v1329 c0_i32_878
  let v1331 : Index := Scalar.indexCast v1330
  ![1, 51, v1331.toNat]
def k0_off116 (i : grid0.Coords) (c0_i32_884 : BitVec 32) : Fin 3 → Nat :=
  let c1_885 : Index := 1#32
  let c52_886 : Index := 52#32
  let arg0 : BitVec 32 := BitVec.ofNat 32 (i 0).val
  let c2_i32_883 : BitVec 32 := 2#32
  let v1337 : BitVec 32 := Scalar.muli arg0 c2_i32_883
  let v1338 : BitVec 32 := Scalar.addi v1337 c0_i32_884
  let v1339 : Index := Scalar.indexCast v1338
  ![1, 52, v1339.toNat]
def k0_off117 (i : grid0.Coords) (c0_i32_890 : BitVec 32) : Fin 3 → Nat :=
  let c1_891 : Index := 1#32
  let c53_892 : Index := 53#32
  let arg0 : BitVec 32 := BitVec.ofNat 32 (i 0).val
  let c2_i32_889 : BitVec 32 := 2#32
  let v1345 : BitVec 32 := Scalar.muli arg0 c2_i32_889
  let v1346 : BitVec 32 := Scalar.addi v1345 c0_i32_890
  let v1347 : Index := Scalar.indexCast v1346
  ![1, 53, v1347.toNat]
def k0_off118 (i : grid0.Coords) (c0_i32_896 : BitVec 32) : Fin 3 → Nat :=
  let c1_897 : Index := 1#32
  let c54_898 : Index := 54#32
  let arg0 : BitVec 32 := BitVec.ofNat 32 (i 0).val
  let c2_i32_895 : BitVec 32 := 2#32
  let v1353 : BitVec 32 := Scalar.muli arg0 c2_i32_895
  let v1354 : BitVec 32 := Scalar.addi v1353 c0_i32_896
  let v1355 : Index := Scalar.indexCast v1354
  ![1, 54, v1355.toNat]
def k0_off119 (i : grid0.Coords) (c0_i32_902 : BitVec 32) : Fin 3 → Nat :=
  let c1_903 : Index := 1#32
  let c55_904 : Index := 55#32
  let arg0 : BitVec 32 := BitVec.ofNat 32 (i 0).val
  let c2_i32_901 : BitVec 32 := 2#32
  let v1361 : BitVec 32 := Scalar.muli arg0 c2_i32_901
  let v1362 : BitVec 32 := Scalar.addi v1361 c0_i32_902
  let v1363 : Index := Scalar.indexCast v1362
  ![1, 55, v1363.toNat]
def k0_off120 (i : grid0.Coords) : Fin 4 → Nat :=
  let arg0 : BitVec 32 := BitVec.ofNat 32 (i 0).val
  let c4_i32_2 : BitVec 32 := 4#32
  let v8 : BitVec 32 := Scalar.remsi arg0 c4_i32_2
  let v1820 : Index := Scalar.indexCast v8
  let c1_1243 : Index := 1#32
  let c0_1244 : Index := 0#32
  let c0_1245 : Index := 0#32
  ![v1820.toNat, 1, 0, 0]
def k0_cond3 (i : grid0.Coords) : BitVec 1 :=
  let arg0 : BitVec 32 := BitVec.ofNat 32 (i 0).val
  let c95_i32 : BitVec 32 := 95#32
  let v1941 : BitVec 1 := Scalar.cmpi .eq arg0 c95_i32
  let v1942 : BitVec 32 := Scalar.extui v1941
  let c0_i32_1289 : BitVec 32 := 0#32
  let v1943 : BitVec 1 := Scalar.cmpi .ne v1942 c0_i32_1289
  v1943

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .smem S2x56x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x7168 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1x56 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S16x1x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S16x1x7168 : Shape := ⟨3, ![16, 1, 7168]⟩
abbrev S2x24576x7168 : Shape := ⟨3, ![2, 24576, 7168]⟩
abbrev S2x192x56 : Shape := ⟨3, ![2, 192, 56]⟩
abbrev S16x7168 : Shape := ⟨2, ![16, 7168]⟩
abbrev S16x24576 : Shape := ⟨2, ![16, 24576]⟩
abbrev S16x1x56 : Shape := ⟨3, ![16, 1, 56]⟩
abbrev S16x1x192 : Shape := ⟨3, ![16, 1, 192]⟩
abbrev S16x56x128 : Shape := ⟨3, ![16, 56, 128]⟩
abbrev S16x56 : Shape := ⟨2, ![16, 56]⟩
abbrev S16x56x246 : Shape := ⟨3, ![16, 56, 246]⟩
abbrev S16x56x1 : Shape := ⟨3, ![16, 56, 1]⟩
abbrev S1x1x16x56x128 : Shape := ⟨5, ![1, 1, 16, 56, 128]⟩
abbrev S2x192x1x56x1 : Shape := ⟨5, ![2, 192, 1, 56, 1]⟩
abbrev S2x192x16x56x128 : Shape := ⟨5, ![2, 192, 16, 56, 128]⟩
abbrev S2x192x16x7168 : Shape := ⟨4, ![2, 192, 16, 7168]⟩
abbrev S2x192x128x7168 : Shape := ⟨4, ![2, 192, 128, 7168]⟩
abbrev S2x192x16x128 : Shape := ⟨4, ![2, 192, 16, 128]⟩
abbrev S2x16x192x128 : Shape := ⟨4, ![2, 16, 192, 128]⟩
abbrev S2x16x24576 : Shape := ⟨3, ![2, 16, 24576]⟩
abbrev S1x16x24576 : Shape := ⟨3, ![1, 16, 24576]⟩
abbrev S16x192x128 : Shape := ⟨3, ![16, 192, 128]⟩
abbrev S16x192 : Shape := ⟨2, ![16, 192]⟩
abbrev S16x192x246 : Shape := ⟨3, ![16, 192, 246]⟩
abbrev S16x192x1 : Shape := ⟨3, ![16, 192, 1]⟩

abbrev nBuf : Space → Nat
  | .hbm => 9
  | .vmem => 8
  | .smem => 0
  | _ => 0

abbrev bufTy : (tb : Table) → Fin (tcTables nBuf tb) → BufTy
  | .hbm, ⟨0, _⟩ => ⟨S16x1x7168, .bf16⟩
  | .hbm, ⟨1, _⟩ => ⟨S2x24576x7168, .fp8e4m3⟩
  | .hbm, ⟨2, _⟩ => ⟨S2x192x56, .f32⟩
  | .hbm, ⟨3, _⟩ => ⟨S16x7168, .bf16⟩
  | .hbm, ⟨4, _⟩ => ⟨S16x24576, .bf16⟩
  | .hbm, ⟨5, _⟩ => ⟨S16x7168, .fp8e4m3⟩
  | .hbm, ⟨6, _⟩ => ⟨S16x1x56, .f32⟩
  | .hbm, ⟨7, _⟩ => ⟨S16x24576, .fp8e4m3⟩
  | .hbm, ⟨8, _⟩ => ⟨S16x1x192, .f32⟩
  | .local _ .vmem, ⟨0, _⟩ => ⟨S16x7168, .bf16⟩
  | .local _ .vmem, ⟨1, _⟩ => ⟨S2x24576x7168, .fp8e4m3⟩
  | .local _ .vmem, ⟨2, _⟩ => ⟨S2x192x56, .f32⟩
  | .local _ .vmem, ⟨3, _⟩ => ⟨S16x24576, .bf16⟩
  | .local _ .vmem, ⟨4, _⟩ => ⟨S16x7168, .fp8e4m3⟩
  | .local _ .vmem, ⟨5, _⟩ => ⟨S16x1x56, .f32⟩
  | .local _ .vmem, ⟨6, _⟩ => ⟨S16x24576, .fp8e4m3⟩
  | .local _ .vmem, ⟨7, _⟩ => ⟨S16x1x192, .f32⟩
  | _, _ => ⟨S16x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v1_4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S16x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x24576x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x192x56 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x24576 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x7168 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x1x56 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x24576 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x1x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Same.lean ====
module

public import proofs.«01_k».proof.Kernel
public import proofs.«01_k».proof.KernelIdeal

@[expose] public section

set_option maxRecDepth 65536
set_option maxHeartbeats 4000000

/-! # The kernel's two readings are one text

`Cert.Kernel` and `Cert.KernelIdeal` are printed from the same module and no operation was rewritten, so at any reading of the
floats they are the same program, and what is proved of one holds of the other. -/

namespace Cert.Same

open Idealize.ShloMosaic

variable {F : FTy → Type} [FloatOps F]

/-- The two kernel bodies are the same text. -/
theorem cc_eq [hK : Cert.Kernel.Facts] [hI : Cert.KernelIdeal.Facts] : @Cert.Kernel.cc0_swiglu_fp8 F _ _ = @Cert.KernelIdeal.cc0_swiglu_fp8 F _ _ := rfl

/-- The two tables of procedures without the pipeline's. -/
theorem defs0_eq [hK : Cert.Kernel.Facts] [hI : Cert.KernelIdeal.Facts] : @Cert.Kernel.defs₀ F _ _ = @Cert.KernelIdeal.defs₀ F _ _ := by
  unfold Cert.Kernel.defs₀ Cert.KernelIdeal.defs₀
  congr 1
  funext l x
  match l, x with
  | 0, (t, s) => rfl

/-- The two tables of procedures. -/
theorem defs_eq [hK : Cert.Kernel.Facts] [hI : Cert.KernelIdeal.Facts] : @Cert.Kernel.defs F _ _ = @Cert.KernelIdeal.defs F _ _ := by
  unfold Cert.Kernel.defs Cert.KernelIdeal.defs
  exact congrArg (Pipeline.defs (Cert.KernelIdeal.pcfgs (F := F))) defs0_eq

/-- The two main programs. -/
theorem main_eq [hK : Cert.Kernel.Facts] [hI : Cert.KernelIdeal.Facts] : Cert.Kernel.main (F := F) = Cert.KernelIdeal.main (F := F) := rfl

end Cert.Same

end
-- ==== Proof.Runs.lean ====
/- What the four cases of the kernel's body share: the memory before the kernel region, the closed forms of its three
   branch conditions over the 96 grid points, and the four-slot ring through which the weight tiles arrive. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Ring.AtN
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

/-- The host prefix allocates no semaphore. -/
theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 96 = 0 :=
  (fun t => by
    have ht : t.val < 96 := Nat.lt_of_lt_of_eq t.isLt N_0
    have e0 : (grid0.coords t 0).val = t.val / 1 % 96 := Pipeline.Grid.coords_val t 0 (by decide) rfl
    simp only [cond0_0, k0_cond1, e0]
    word_cmp
   : ∀ t : Fin grid0.N, cond0_0 (grid0.coords t) ↔ t.val % 96 = 0)

/-- The condition of the body's `scf.if` 1 (`k0_h2`), from the grid coordinates (the skeleton's scalar
    chain substituted). -/
abbrev cond0_1 (i : grid0.Coords) : Prop := k0_cond2 i = 1#1
/-- It holds at the points before point 93 — decided over the grid. -/
theorem hcond0_1 : ∀ t : Fin cfg0.N, cond0_1 (grid0.coords t) ↔ t.val < 93 :=
  (by decide +kernel : ∀ t : Fin grid0.N, cond0_1 (grid0.coords t) ↔ t.val < 93)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 96 = 95 :=
  (fun t => by
    have ht : t.val < 96 := Nat.lt_of_lt_of_eq t.isLt N_0
    have e0 : (grid0.coords t 0).val = t.val / 1 % 96 := Pipeline.Grid.coords_val t 0 (by decide) rfl
    simp only [cond0_2, k0_cond3, e0]
    word_cmp
   : ∀ t : Fin grid0.N, cond0_2 (grid0.coords t) ↔ t.val % 96 = 95)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S2x56x192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x7168 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x7168 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x1x56 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x256 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x1x192 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S16x7168 .bf16 := Memref.whole cc0_scratch0
abbrev scM0_1 : Memref sig .tc .vmem S16x192 .f32 := Memref.whole cc0_scratch1
abbrev scM0_2 : Memref sig .tc .vmem S4x2x256x7168 .fp8e4m3 := Memref.whole cc0_scratch2
/-- The operands left in HBM that the body copies into scratch itself, whole. -/
abbrev hbM0_0 : Memref sig .tc .hbm S2x24576x7168 .fp8e4m3 := Memref.whole main_arg1
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 4 → SemLoc sig := fun j => (![SemLoc.dma 9, SemLoc.dma 10, SemLoc.dma 11, SemLoc.dma 12] : Fin 4 → SemLoc sig) j
/-- The body's own semaphores are apart from the pipeline's. -/
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0) := by
  rw [Pipeline.ownSems0_eq_of_list c osem0 [0, 1, 2, 3] (by decide) (by decide)]; rfl
/-- The HBM operands the body moves, as references: unscoped, no window's array (`Pipeline.restRefs`). -/
def H0 : Finset (Ref sig .tc) := {main_arg1}
/-- The weights are no window's array. -/
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg1)) := by
  rw [BI.bigSep_eq_bigSepL_of_eq [main_arg1] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0) ∗ iprop(hbPt0 c hbM0_0 (V m c main_arg1))) := by
  rw [Pipeline.ΦD_eq, scopedRest0_eq, ownSems00_eq, hbmPts0_eq]; simp only [scM0_0, scM0_1, scM0_2, owns_whole]; try rfl

/-! ## Ring 0 of kernel 0: `main_arg1` streamed through the 4 slots of `cc0_scratch2` on the cells of `cc0_scratch3`, 3 block ahead, in 96 steps -/

instance : NeZero grid0.N := ⟨by rw [N_0]; decide⟩
/-- A slot lies inside the ring. -/
theorem inb_slot0_0 (s : Fin 4) : ∀ a, (![s.val, 0, 0, 0] : Fin 4 → Nat) a + S1x2x256x7168.size a ≤ S4x2x256x7168.size a := by
  have := s.isLt; intro a; fin_cases a <;> simp <;> omega
/-- A block lies inside the weights. -/
theorem inb_src0_0 (b : Fin 96) : ∀ a, (![0, 256 * b.val, 0] : Fin 3 → Nat) a + S2x256x7168.size a ≤ S2x24576x7168.size a := by
  have := b.isLt; intro a; fin_cases a <;> simp <;> omega
/-- A cell lies inside the semaphore array. -/
theorem inb_cell0_0 (s : Fin 4) : ∀ a, (![s.val] : Fin 1 → Nat) a + S1.size a ≤ S4.size a := by
  have := s.isLt; intro a; fin_cases a <;> simp <;> omega
/-- Slot `s` of the ring, spelt as the body's transfers spell their destination, at offsets in `s`. -/
def rslot0_0 (s : Fin 4) : Memref sig .tc .vmem S2x256x7168 .fp8e4m3 :=
  (scM0_2.slice (Rect.unit (s := S4x2x256x7168) ![s.val, 0, 0, 0] S1x2x256x7168.size (inb_slot0_0 s)) (fun _ => rfl)).squeeze S2x256x7168 squeezes_S1x2x256x7168_S2x256x7168
/-- Block `b` of the operand (the block step `b` waits), spelt as the transfers spell their source, at offsets in `b`. -/
def srcB0_0 (b : Fin 96) : Memref sig .tc .hbm S2x256x7168 .fp8e4m3 :=
  hbM0_0.slice (Rect.unit (s := S2x24576x7168) ![0, 256 * b.val, 0] S2x256x7168.size (inb_src0_0 b)) (fun _ => rfl)
/-- Cell `s` of `cc0_scratch3`, spelt as the body spells a cell; its number in the pool. -/
def cellA0_0 (s : Fin 4) : DmaSems sig S_ := (cc0_scratch3.slice (Rect.unit (s := S4) ![s.val] S1.size (inb_cell0_0 s))).squeeze S_ squeezes_S1_S_
abbrev cellR0_0 (s : Fin 4) : SemLoc sig := SemLoc.dma (cellA0_0 s).sem
/-- The number of a slot's semaphore in the pool. -/
theorem cellR0_0_0 : cellR0_0 0 = SemLoc.dma 9 := by decide
/-- The number of a slot's semaphore in the pool. -/
theorem cellR0_0_1 : cellR0_0 1 = SemLoc.dma 10 := by decide
/-- The number of a slot's semaphore in the pool. -/
theorem cellR0_0_2 : cellR0_0 2 = SemLoc.dma 11 := by decide
/-- The number of a slot's semaphore in the pool. -/
theorem cellR0_0_3 : cellR0_0 3 = SemLoc.dma 12 := by decide

section Ring0_0
variable (c : Dev nD) (W : HbBuf0 (F := F) c hbM0_0)
/-- The operand is lent BY SHARE, one read-share copy of it per slot (the full share halved 3 times down its right spine):
    whatever blocks the transfers in flight stream — the same one twice, ones that overlap —, each borrows from its own slot's copy. -/
abbrev qs0_0 (s : Fin 4) : PosShare TreeShare := if s.val = 0 then fullShare.left else if s.val = 1 then fullShare.right.left else if s.val = 2 then fullShare.right.right.left else fullShare.right.right.right
/-- The families the ring is stated over: slot `s` held at `f`; cell `s` at zero; block `b`'s elements of slot `s`'s copy of the
    operand (what a transfer into slot `s` lends), the REST of that copy, and the copy whole; slot `s`'s contents once block `b`
    landed in it whole over `f` (the executor's listed write); the FLIGHT of block `b` into slot `s`, delivering the slot landed
    and the lent elements back. -/
abbrev slotP0_0 (s : Fin 4) (f : HbBuf0 (F := F) c (rslot0_0 s)) : sProp 𝕄 := (rslot0_0 s).view.loc (c : Thread nD τ) ↦[(rslot0_0 s).view.set]{fullShare} f
abbrev cellP0_0 (s : Fin 4) : sProp 𝕄 := semVal ((c : Thread nD τ), cellR0_0 s) 0
abbrev srcP0_0 (s : Fin 4) (b : Fin 96) : sProp 𝕄 := (srcB0_0 b).view.loc (c : Thread nD τ) ↦[(srcB0_0 b).view.set]{qs0_0 s} W
/-- (a `def`: no run reads this rest, and folded it stays out of the executor's table of held buffers) -/
def restP0_0 (s : Fin 4) (b : Fin 96) : sProp 𝕄 := ((c : Thread nD τ).loc main_arg1) ↦[Finset.univ \ (srcB0_0 b).view.set]{qs0_0 s} W
abbrev wholeP0_0 (s : Fin 4) : sProp 𝕄 := ((c : Thread nD τ).loc main_arg1) ↦[Finset.univ]{qs0_0 s} W
abbrev landed0_0 (s : Fin 4) (b : Fin 96) (f : HbBuf0 (F := F) c (rslot0_0 s)) : HbBuf0 (F := F) c (rslot0_0 s) :=
  (rslot0_0 s).view.writes (Elt F) f [⟨Rect.whole S2x256x7168, ReadAs.same.apply ((srcB0_0 b).view.read (Elt F) W)⟩]
abbrev flightP0_0 (s : Fin 4) (b : Fin 96) (f : HbBuf0 (F := F) c (rslot0_0 s)) : sProp 𝕄 :=
  Transfers.Flight countersEmb (c : Thread nD τ) (cellR0_0 s) default ((rslot0_0 s).view.amount (cellR0_0 s))
    iprop(slotP0_0 c s (landed0_0 c W s b f) ∗ srcP0_0 c W s b)
/-- Lib/Ring.lean's `slot` and `flight` families: a slot not in flight carries its copy of the operand whole; a flight, the
    rest of the copy it borrowed from. No block is held apart: the `home` family is `emp`. -/
abbrev slotW0_0 (s : Fin 4) (f : HbBuf0 (F := F) c (rslot0_0 s)) : sProp 𝕄 := iprop(slotP0_0 c s f ∗ wholeP0_0 c W s)
abbrev flightW0_0 (s : Fin 4) (b : Fin 96) (f : HbBuf0 (F := F) c (rslot0_0 s)) : sProp 𝕄 := iprop(flightP0_0 c W s b f ∗ restP0_0 c W s b)
abbrev noHome0_0 (b : Fin 96) : sProp 𝕄 := iprop(emp)
/-- The ring before its step `k` (Lib/Ring.lean `At 3`): every slot free before the first; from then on blocks `k` to `k + 2` in
    flight into slots `k` to `k + 2` (while they exist), slot `k + 3` free; a waited block is read within its step and not kept. -/
def ringAt0_0 (k : ℕ) : sProp 𝕄 :=
  if k = 0 then Ring.At₀ (cellP0_0 c) (slotW0_0 c W) noHome0_0
  else Ring.At 3 (cellP0_0 c) (slotW0_0 c W) noHome0_0 (flightW0_0 c W) k
omit [FloatOps F] in
/-- A slot's semaphore at zero, by its number in the pool. -/
theorem cellP0_0_0 : cellP0_0 (F := F) c 0 = semVal ((c : Thread nD τ), SemLoc.dma 9) 0 := congrArg (fun x => (semVal ((c : Thread nD τ), x) 0 : sProp 𝕄)) cellR0_0_0
omit [FloatOps F] in
/-- A slot's semaphore at zero, by its number in the pool. -/
theorem cellP0_0_1 : cellP0_0 (F := F) c 1 = semVal ((c : Thread nD τ), SemLoc.dma 10) 0 := congrArg (fun x => (semVal ((c : Thread nD τ), x) 0 : sProp 𝕄)) cellR0_0_1
omit [FloatOps F] in
/-- A slot's semaphore at zero, by its number in the pool. -/
theorem cellP0_0_2 : cellP0_0 (F := F) c 2 = semVal ((c : Thread nD τ), SemLoc.dma 11) 0 := congrArg (fun x => (semVal ((c : Thread nD τ), x) 0 : sProp 𝕄)) cellR0_0_2
omit [FloatOps F] in
/-- A slot's semaphore at zero, by its number in the pool. -/
theorem cellP0_0_3 : cellP0_0 (F := F) c 3 = semVal ((c : Thread nD τ), SemLoc.dma 12) 0 := congrArg (fun x => (semVal ((c : Thread nD τ), x) 0 : sProp 𝕄)) cellR0_0_3
end Ring0_0

/-! ### The slots, disjoint and covering the scratch (Lib/Ring.lean `lead_disjoint` / `lead_cover`) -/

abbrev slotSet0_0 (s : Fin 4) : Finset S4x2x256x7168.Idx := (Rect.unit (s := S4x2x256x7168) ![s.val, 0, 0, 0] S1x2x256x7168.size (inb_slot0_0 s)).set
/-- A slot's elements, as a rectangle of the ring. -/
theorem slotSet0_0_eq (s : Fin 4) : (rslot0_0 s).view.set = slotSet0_0 s := by
  simp only [rslot0_0, Memref.view_squeeze, View.set_reshape]; exact View.set_slice_whole _ _
/-- Two slots share no element. -/
theorem slots0_0_disjoint (s s' : Fin 4) (h : s ≠ s') : Disjoint (slotSet0_0 s) (slotSet0_0 s') :=
  Ring.lead_disjoint (s := S4x2x256x7168) (0 : Fin 4) 1 (fun s : Fin 4 => (![s.val, 0, 0, 0] : Fin 4 → Nat)) S1x2x256x7168.size inb_slot0_0 (fun s => by simp) rfl s s' h
/-- The slots are the whole ring. -/
theorem slots0_0_cover : Finset.univ.biUnion slotSet0_0 = Finset.univ :=
  Ring.lead_cover (s := S4x2x256x7168) (0 : Fin 4) 1 (fun s : Fin 4 => (![s.val, 0, 0, 0] : Fin 4 → Nat)) S1x2x256x7168.size inb_slot0_0 (fun s => by simp)
    (fun s a ha => by fin_cases a <;> first | exact absurd rfl ha | rfl) rfl (fun a ha => by fin_cases a <;> first | exact absurd rfl ha | rfl) rfl

/-! ### What the launch hands the ring, and takes back -/

section InOut0_0
variable (c : Dev nD) (W : HbBuf0 (F := F) c hbM0_0)
/-- Owning a slot is owning its elements of the ring. -/
theorem slotP0_0_eq (s : Fin 4) (f) : slotP0_0 (F := F) c s f = (((c : Thread nD τ).loc cc0_scratch2) ↦[slotSet0_0 s]{fullShare} f : sProp 𝕄) := by
  unfold slotP0_0; rw [slotSet0_0_eq]; rfl
/-- A slot's copy of the operand, whole, is block `b`'s elements and the rest (any `b`: what a run splits off before its step
    starts block `b`, and joins back once the wait returned it); -/
theorem src0_0_split (s : Fin 4) (b : Fin 96) : wholeP0_0 (F := F) c W s ⊣⊢ iprop(srcP0_0 c W s b ∗ restP0_0 c W s b) := by
  unfold restP0_0; exact pointsTo_split_subset (Finset.subset_univ _)
/-- the operand whole at the full share is the 4 copies (halved down the right spine). -/
theorem whole0_0_split : (hbPt0 c hbM0_0 W : sProp 𝕄) ⊣⊢ iprop(wholeP0_0 c W 0 ∗ wholeP0_0 c W 1 ∗ wholeP0_0 c W 2 ∗ wholeP0_0 c W 3) := by
  refine ⟨?_, ?_⟩
  · iintro H
    ihave G0 := (pointsTo_share (PosShare.mem_left_op_right fullShare)).1 $$ H
    icases G0 with ⟨H0, R1⟩
    ihave G1 := (pointsTo_share (PosShare.mem_left_op_right fullShare.right)).1 $$ R1
    icases G1 with ⟨H1, R2⟩
    ihave G2 := (pointsTo_share (PosShare.mem_left_op_right fullShare.right.right)).1 $$ R2
    icases G2 with ⟨H2, H3⟩
    isplitl [H0]; · iexact H0
    isplitl [H1]; · iexact H1
    isplitl [H2]; · iexact H2
    iexact H3
  · iintro ⟨H0, H1, H2, H3⟩
    iapply (pointsTo_share (PosShare.mem_left_op_right fullShare)).2
    isplitl [H0]; · iexact H0
    iapply (pointsTo_share (PosShare.mem_left_op_right fullShare.right)).2
    isplitl [H1]; · iexact H1
    iapply (pointsTo_share (PosShare.mem_left_op_right fullShare.right.right)).2
    isplitl [H2]; · iexact H2
    iexact H3
set_option maxHeartbeats 1000000 in
/-- the scratch whole at anything is its slots at something each, and back. -/
theorem slots0_0_in : iprop(∃ d, owns (c : Thread nD τ) scM0_2 fullShare d) ⊢ (iprop((∃ f, slotP0_0 (F := F) c 0 f) ∗ (∃ f, slotP0_0 (F := F) c 1 f) ∗ (∃ f, slotP0_0 (F := F) c 2 f) ∗ ∃ f, slotP0_0 (F := F) c 3 f) : sProp 𝕄) := by
  simp only [scM0_2, owns_whole]
  exact Ring.slots4_split (U := Pipeline.UD sig nD τ) (ℓ := (c : Thread nD τ).loc cc0_scratch2) (q := fullShare) slotSet0_0 slots0_0_disjoint slots0_0_cover
    (slotP0_0 c 0) (slotP0_0 c 1) (slotP0_0 c 2) (slotP0_0 c 3) (slotP0_0_eq c 0) (slotP0_0_eq c 1) (slotP0_0_eq c 2) (slotP0_0_eq c 3)
set_option maxHeartbeats 1000000 in
/-- The slots taken out of the ring are the whole ring again. -/
theorem slots0_0_out : (iprop((∃ f, slotP0_0 (F := F) c 0 f) ∗ (∃ f, slotP0_0 (F := F) c 1 f) ∗ (∃ f, slotP0_0 (F := F) c 2 f) ∗ ∃ f, slotP0_0 (F := F) c 3 f) : sProp 𝕄) ⊢ iprop(∃ d, owns (c : Thread nD τ) scM0_2 fullShare d) := by
  simp only [scM0_2, owns_whole]
  exact Ring.slots4_join (U := Pipeline.UD sig nD τ) (ℓ := (c : Thread nD τ).loc cc0_scratch2) (q := fullShare) slotSet0_0 slots0_0_disjoint slots0_0_cover
    (slotP0_0 c 0) (slotP0_0 c 1) (slotP0_0 c 2) (slotP0_0 c 3) (slotP0_0_eq c 0) (slotP0_0_eq c 1) (slotP0_0_eq c 2) (slotP0_0_eq c 3)
end InOut0_0

/-- INTO THE RING: the launch's pieces — the scratch whole, the cells at zero, the operand whole — are the ring before its first step; -/
theorem ring0_0_in (c : Dev nD) :
    iprop((∃ d, owns (c : Thread nD τ) scM0_2 fullShare d) ∗ (semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0) ∗ hbPt0 c hbM0_0 (V m c main_arg1))
      ⊢ ringAt0_0 c (V m c main_arg1) 0 := by
  unfold ringAt0_0; rw [if_pos rfl]; unfold Ring.At₀
  rw [Ring.bigSep_fin4]
  simp only [Ring.free, cellP0_0_0, cellP0_0_1, cellP0_0_2, cellP0_0_3]
  iintro ⟨HS, Hc, HW⟩
  iapply Ring.with_homes₀
  icases Hc with ⟨H0, H1, H2, H3⟩
  ihave HS' := (slots0_0_in (F := F) c) $$ HS
  icases HS' with ⟨⟨%d0, HS0⟩, ⟨%d1, HS1⟩, ⟨%d2, HS2⟩, ⟨%d3, HS3⟩⟩
  ihave HW' := (whole0_0_split (F := F) c (V m c main_arg1)).1 $$ HW
  icases HW' with ⟨HW0, HW1, HW2, HW3⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  isplitl [H2 HS2 HW2]
  · isplitl [H2]; · iexact H2
    iexists d2; isplitl [HS2]; · iexact HS2
    iexact HW2
  · isplitl [H3]; · iexact H3
    iexists d3; isplitl [HS3]; · iexact HS3
    iexact HW3
/-- OUT OF THE RING: after the last step (every slot kept or free: the kept blocks forgotten) those pieces again. -/
theorem ring0_0_out (c : Dev nD) :
    ringAt0_0 c (V m c main_arg1) 96
      ⊢ iprop((∃ d, owns (c : Thread nD τ) scM0_2 fullShare d) ∗ (semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0) ∗ hbPt0 c hbM0_0 (V m c main_arg1)) := by
  unfold ringAt0_0; rw [if_neg (by decide)]
  iintro H
  ihave H' := (Ring.free4_of_At_last _ _ _ _) $$ H
  simp only [Ring.free, cellP0_0_0, cellP0_0_1, cellP0_0_2, cellP0_0_3]
  icases H' with ⟨-, ⟨H0, ⟨%f0, HS0, HW0⟩⟩, ⟨H1, ⟨%f1, HS1, HW1⟩⟩, ⟨H2, ⟨%f2, HS2, HW2⟩⟩, ⟨H3, ⟨%f3, HS3, HW3⟩⟩⟩
  isplitl [HS0 HS1 HS2 HS3]
  · iapply (slots0_0_out (F := F) c); isplitl [HS0]; · iexists f0; iexact HS0
    isplitl [HS1]; · iexists f1; iexact HS1
    isplitl [HS2]; · iexists f2; iexact HS2
    iexists f3; iexact HS3
  isplitl [H0 H1 H2 H3]
  · isplitl [H0]; · iexact H0
    isplitl [H1]; · iexact H1
    isplitl [H2]; · iexact H2
    iexact H3
  · iapply (whole0_0_split (F := F) c (V m c main_arg1)).2; isplitl [HW0]; · iexact HW0
    isplitl [HW1]; · iexact HW1
    isplitl [HW2]; · iexact HW2
    iexact HW3

/-! ### Ring 0's steps at each case's points, and its canonical names: the body's operands at point `t` are the ring's slots, blocks and cells -/

section Canon0_0
omit [FloatOps F]
/-- At the points of case A the ring takes its FIRST step. -/
theorem rstep0_0_A : ∀ t : Fin grid0.N, cond0_0 (grid0.coords t) → cond0_1 (grid0.coords t) → ¬cond0_2 (grid0.coords t) → t.val = 0 ∧ (t.val + 1) = 1 := by decide +kernel
/-- At the points of case B the ring takes a step, a block still to start. -/
theorem rstep0_0_B : ∀ t : Fin grid0.N, ¬cond0_0 (grid0.coords t) → cond0_1 (grid0.coords t) → ¬cond0_2 (grid0.coords t) → 1 ≤ t.val ∧ t.val + 3 < 96 ∧ (t.val + 1) = t.val + 1 := by decide +kernel
/-- At the points of case C the ring takes its LAST step. -/
theorem rstep0_0_C : ∀ t : Fin grid0.N, ¬cond0_0 (grid0.coords t) → ¬cond0_1 (grid0.coords t) → ¬cond0_2 (grid0.coords t) → 1 ≤ t.val ∧ 96 ≤ t.val + 3 ∧ t.val < 96 ∧ (t.val + 1) = t.val + 1 := by decide +kernel
/-- At the points of case D the ring takes its LAST step. -/
theorem rstep0_0_D : ∀ t : Fin grid0.N, ¬cond0_0 (grid0.coords t) → ¬cond0_1 (grid0.coords t) → cond0_2 (grid0.coords t) → 1 ≤ t.val ∧ 96 ≤ t.val + 3 ∧ t.val < 96 ∧ (t.val + 1) = t.val + 1 := by decide +kernel
set_option synthInstance.maxSize 4096 in
/-- Where an access of this point begins, in the spelling of the ring's slots and the blocks of the weights. -/
theorem coff0_0_1 : ∀ t : Fin grid0.N, cond0_0 (grid0.coords t) → cond0_1 (grid0.coords t) → ¬cond0_2 (grid0.coords t) → (![0, 0, 0, 0] : Fin 4 → Nat) = ![(Ring.sl 4 t.val).val, 0, 0, 0] := by decide +kernel
@[sl_canon] theorem canon0_0_1 (t : Fin grid0.N) (h0 : cond0_0 (grid0.coords t)) (h1 : cond0_1 (grid0.coords t)) (h2 : ¬cond0_2 (grid0.coords t)) :
    (scM0_2.slice (Rect.unit (s := S4x2x256x7168) ![0, 0, 0, 0] S1x2x256x7168.size inb_S4x2x256x7168_S1x2x256x7168_0_0_0_0) (fun _ => rfl)).squeeze S2x256x7168 squeezes_S1x2x256x7168_S2x256x7168 = rslot0_0 (Ring.sl 4 t.val) :=
  congrArg (fun M : Memref sig .tc .vmem S1x2x256x7168 .fp8e4m3 => M.squeeze S2x256x7168 squeezes_S1x2x256x7168_S2x256x7168) (Memref.slice_unit_congr _ (coff0_0_1 t h0 h1 h2) _ _ (fun _ => rfl) (fun _ => rfl))
set_option synthInstance.maxSize 4096 in
/-- Where an access of this point begins, in the spelling of the ring's slots and the blocks of the weights. -/
theorem coff0_0_2 : ∀ t : Fin grid0.N, cond0_0 (grid0.coords t) → cond0_1 (grid0.coords t) → ¬cond0_2 (grid0.coords t) → (![0] : Fin 1 → Nat) = ![(Ring.sl 4 t.val).val] := by decide +kernel
@[sl_canon] theorem canon0_0_2 (t : Fin grid0.N) (h0 : cond0_0 (grid0.coords t)) (h1 : cond0_1 (grid0.coords t)) (h2 : ¬cond0_2 (grid0.coords t)) :
    (cc0_scratch3.slice (Rect.unit (s := S4) ![0] S1.size inb_S4_S1_0)).squeeze S_ squeezes_S1_S_ = cellA0_0 (Ring.sl 4 t.val) :=
  congrArg (fun A : DmaSems sig S1 => A.squeeze S_ squeezes_S1_S_) (SemArray.slice_unit_congr _ (coff0_0_2 t h0 h1 h2) _ _)
set_option synthInstance.maxSize 4096 in
/-- Where an access of this point begins, in the spelling of the ring's slots and the blocks of the weights. -/
theorem coff0_0_3 : ∀ t : Fin grid0.N, cond0_0 (grid0.coords t) → cond0_1 (grid0.coords t) → ¬cond0_2 (grid0.coords t) → (![0, 0, 0] : Fin 3 → Nat) = ![0, 256 * (Ring.bk 96 t.val).val, 0] := by decide +kernel
@[sl_canon] theorem canon0_0_3 (t : Fin grid0.N) (h0 : cond0_0 (grid0.coords t)) (h1 : cond0_1 (grid0.coords t)) (h2 : ¬cond0_2 (grid0.coords t)) :
    hbM0_0.slice (Rect.unit (s := S2x24576x7168) ![0, 0, 0] S2x256x7168.size inb_S2x24576x7168_S2x256x7168_0_0_0) (fun _ => rfl) = srcB0_0 (Ring.bk 96 t.val) :=
  congrArg (fun M : Memref sig .tc .hbm S2x256x7168 .fp8e4m3 => M) (Memref.slice_unit_congr _ (coff0_0_3 t h0 h1 h2) _ _ (fun _ => rfl) (fun _ => rfl))
set_option synthInstance.maxSize 4096 in
/-- Where an access of this point begins, in the spelling of the ring's slots and the blocks of the weights. -/
theorem coff0_0_4 : ∀ t : Fin grid0.N, cond0_0 (grid0.coords t) → cond0_1 (grid0.coords t) → ¬cond0_2 (grid0.coords t) → (![1, 0, 0, 0] : Fin 4 → Nat) = ![(Ring.sl 4 (t.val + 1)).val, 0, 0, 0] := by decide +kernel
@[sl_canon] theorem canon0_0_4 (t : Fin grid0.N) (h0 : cond0_0 (grid0.coords t)) (h1 : cond0_1 (grid0.coords t)) (h2 : ¬cond0_2 (grid0.coords t)) :
    (scM0_2.slice (Rect.unit (s := S4x2x256x7168) ![1, 0, 0, 0] S1x2x256x7168.size inb_S4x2x256x7168_S1x2x256x7168_1_0_0_0) (fun _ => rfl)).squeeze S2x256x7168 squeezes_S1x2x256x7168_S2x256x7168 = rslot0_0 (Ring.sl 4 (t.val + 1)) :=
  congrArg (fun M : Memref sig .tc .vmem S1x2x256x7168 .fp8e4m3 => M.squeeze S2x256x7168 squeezes_S1x2x256x7168_S2x256x7168) (Memref.slice_unit_congr _ (coff0_0_4 t h0 h1 h2) _ _ (fun _ => rfl) (fun _ => rfl))
set_option synthInstance.maxSize 4096 in
/-- Where an access of this point begins, in the spelling of the ring's slots and the blocks of the weights. -/
theorem coff0_0_5 : ∀ t : Fin grid0.N, cond0_0 (grid0.coords t) → cond0_1 (grid0.coords t) → ¬cond0_2 (grid0.coords t) → (![1] : Fin 1 → Nat) = ![(Ring.sl 4 (t.val + 1)).val] := by decide +kernel
@[sl_canon] theorem canon0_0_5 (t : Fin grid0.N) (h0 : cond0_0 (grid0.coords t)) (h1 : cond0_1 (grid0.coords t)) (h2 : ¬cond0_2 (grid0.coords t)) :
    (cc0_scratch3.slice (Rect.unit (s := S4) ![1] S1.size inb_S4_S1_1)).squeeze S_ squeezes_S1_S_ = cellA0_0 (Ring.sl 4 (t.val + 1)) :=
  congrArg (fun A : DmaSems sig S1 => A.squeeze S_ squeezes_S1_S_) (SemArray.slice_unit_congr _ (coff0_0_5 t h0 h1 h2) _ _)
set_option synthInstance.maxSize 4096 in
/-- Where an access of this point begins, in the spelling of the ring's slots and the blocks of the weights. -/
theorem coff0_0_6 : ∀ t : Fin grid0.N, cond0_0 (grid0.coords t) → cond0_1 (grid0.coords t) → ¬cond0_2 (grid0.coords t) → (![0, 256, 0] : Fin 3 → Nat) = ![0, 256 * (Ring.bk 96 (t.val + 1)).val, 0] := by decide +kernel
@[sl_canon] theorem canon0_0_6 (t : Fin grid0.N) (h0 : cond0_0 (grid0.coords t)) (h1 : cond0_1 (grid0.coords t)) (h2 : ¬cond0_2 (grid0.coords t)) :
    hbM0_0.slice (Rect.unit (s := S2x24576x7168) ![0, 256, 0] S2x256x7168.size inb_S2x24576x7168_S2x256x7168_0_256_0) (fun _ => rfl) = srcB0_0 (Ring.bk 96 (t.val + 1)) :=
  congrArg (fun M : Memref sig .tc .hbm S2x256x7168 .fp8e4m3 => M) (Memref.slice_unit_congr _ (coff0_0_6 t h0 h1 h2) _ _ (fun _ => rfl) (fun _ => rfl))
set_option synthInstance.maxSize 4096 in
/-- Where an access of this point begins, in the spelling of the ring's slots and the blocks of the weights. -/
theorem coff0_0_7 : ∀ t : Fin grid0.N, cond0_0 (grid0.coords t) → cond0_1 (grid0.coords t) → ¬cond0_2 (grid0.coords t) → (![2, 0, 0, 0] : Fin 4 → Nat) = ![(Ring.sl 4 (t.val + 2)).val, 0, 0, 0] := by decide +kernel
@[sl_canon] theorem canon0_0_7 (t : Fin grid0.N) (h0 : cond0_0 (grid0.coords t)) (h1 : cond0_1 (grid0.coords t)) (h2 : ¬cond0_2 (grid0.coords t)) :
    (scM0_2.slice (Rect.unit (s := S4x2x256x7168) ![2, 0, 0, 0] S1x2x256x7168.size inb_S4x2x256x7168_S1x2x256x7168_2_0_0_0) (fun _ => rfl)).squeeze S2x256x7168 squeezes_S1x2x256x7168_S2x256x7168 = rslot0_0 (Ring.sl 4 (t.val + 2)) :=
  congrArg (fun M : Memref sig .tc .vmem S1x2x256x7168 .fp8e4m3 => M.squeeze S2x256x7168 squeezes_S1x2x256x7168_S2x256x7168) (Memref.slice_unit_congr _ (coff0_0_7 t h0 h1 h2) _ _ (fun _ => rfl) (fun _ => rfl))
set_option synthInstance.maxSize 4096 in
/-- Where an access of this point begins, in the spelling of the ring's slots and the blocks of the weights. -/
theorem coff0_0_8 : ∀ t : Fin grid0.N, cond0_0 (grid0.coords t) → cond0_1 (grid0.coords t) → ¬cond0_2 (grid0.coords t) → (![2] : Fin 1 → Nat) = ![(Ring.sl 4 (t.val + 2)).val] := by decide +kernel
@[sl_canon] theorem canon0_0_8 (t : Fin grid0.N) (h0 : cond0_0 (grid0.coords t)) (h1 : cond0_1 (grid0.coords t)) (h2 : ¬cond0_2 (grid0.coords t)) :
    (cc0_scratch3.slice (Rect.unit (s := S4) ![2] S1.size inb_S4_S1_2)).squeeze S_ squeezes_S1_S_ = cellA0_0 (Ring.sl 4 (t.val + 2)) :=
  congrArg (fun A : DmaSems sig S1 => A.squeeze S_ squeezes_S1_S_) (SemArray.slice_unit_congr _ (coff0_0_8 t h0 h1 h2) _ _)
set_option synthInstance.maxSize 4096 in
/-- Where an access of this point begins, in the spelling of the ring's slots and the blocks of the weights. -/
theorem coff0_0_9 : ∀ t : Fin grid0.N, cond0_0 (grid0.coords t) → cond0_1 (grid0.coords t) → ¬cond0_2 (grid0.coords t) → (![0, 512, 0] : Fin 3 → Nat) = ![0, 256 * (Ring.bk 96 (t.val + 2)).val, 0] := by decide +kernel
@[sl_canon] theorem canon0_0_9 (t : Fin grid0.N) (h0 : cond0_0 (grid0.coords t)) (h1 : cond0_1 (grid0.coords t)) (h2 : ¬cond0_2 (grid0.coords t)) :
    hbM0_0.slice (Rect.unit (s := S2x24576x7168) ![0, 512, 0] S2x256x7168.size inb_S2x24576x7168_S2x256x7168_0_512_0) (fun _ => rfl) = srcB0_0 (Ring.bk 96 (t.val + 2)) :=
  congrArg (fun M : Memref sig .tc .hbm S2x256x7168 .fp8e4m3 => M) (Memref.slice_unit_congr _ (coff0_0_9 t h0 h1 h2) _ _ (fun _ => rfl) (fun _ => rfl))
set_option synthInstance.maxSize 4096 in
/-- Where an access of this point begins, in the spelling of the ring's slots and the blocks of the weights. -/
theorem coff0_0_10 : ∀ t : Fin grid0.N, k0_off2 (grid0.coords t) = ![(Ring.sl 4 (t.val + 3)).val, 0, 0, 0] := by decide +kernel
@[sl_canon] theorem canon0_0_10 (t : Fin grid0.N) (h1 : cond0_1 (grid0.coords t)) :
    (scM0_2.slice (Rect.unit (s := S4x2x256x7168) (k0_off2 (grid0.coords t)) S1x2x256x7168.size (k0_off2_inb (grid0.coords t) h1)) (fun _ => rfl)).squeeze S2x256x7168 squeezes_S1x2x256x7168_S2x256x7168 = rslot0_0 (Ring.sl 4 (t.val + 3)) :=
  congrArg (fun M : Memref sig .tc .vmem S1x2x256x7168 .fp8e4m3 => M.squeeze S2x256x7168 squeezes_S1x2x256x7168_S2x256x7168) (Memref.slice_unit_congr _ (coff0_0_10 t ) _ _ (fun _ => rfl) (fun _ => rfl))
set_option synthInstance.maxSize 4096 in
/-- Where an access of this point begins, in the spelling of the ring's slots and the blocks of the weights. -/
theorem coff0_0_11 : ∀ t : Fin grid0.N, k0_off1 (grid0.coords t) = ![(Ring.sl 4 (t.val + 3)).val] := by decide +kernel
@[sl_canon] theorem canon0_0_11 (t : Fin grid0.N) (h1 : cond0_1 (grid0.coords t)) :
    (cc0_scratch3.slice (Rect.unit (s := S4) (k0_off1 (grid0.coords t)) S1.size (k0_off1_inb (grid0.coords t) h1))).squeeze S_ squeezes_S1_S_ = cellA0_0 (Ring.sl 4 (t.val + 3)) :=
  congrArg (fun A : DmaSems sig S1 => A.squeeze S_ squeezes_S1_S_) (SemArray.slice_unit_congr _ (coff0_0_11 t ) _ _)
set_option synthInstance.maxSize 4096 in
/-- Where an access of this point begins, in the spelling of the ring's slots and the blocks of the weights. -/
theorem coff0_0_12 : ∀ t : Fin grid0.N, cond0_0 (grid0.coords t) → cond0_1 (grid0.coords t) → ¬cond0_2 (grid0.coords t) → k0_off3 (grid0.coords t) = ![0, 256 * (Ring.bk 96 (t.val + 3)).val, 0] := by decide +kernel
@[sl_canon] theorem canon0_0_12 (t : Fin grid0.N) (h0 : cond0_0 (grid0.coords t)) (h1 : cond0_1 (grid0.coords t)) (h2 : ¬cond0_2 (grid0.coords t)) :
    hbM0_0.slice (Rect.unit (s := S2x24576x7168) (k0_off3 (grid0.coords t)) S2x256x7168.size (k0_off3_inb (grid0.coords t) h1)) (fun _ => rfl) = srcB0_0 (Ring.bk 96 (t.val + 3)) :=
  congrArg (fun M : Memref sig .tc .hbm S2x256x7168 .fp8e4m3 => M) (Memref.slice_unit_congr _ (coff0_0_12 t h0 h1 h2) _ _ (fun _ => rfl) (fun _ => rfl))
set_option synthInstance.maxSize 4096 in
/-- Where an access of this point begins, in the spelling of the ring's slots and the blocks of the weights. -/
theorem coff0_0_13 : ∀ t : Fin grid0.N, k0_off5 (grid0.coords t) = ![(Ring.sl 4 t.val).val, 0, 0, 0] := by decide +kernel
@[sl_canon] theorem canon0_0_13 (t : Fin grid0.N) :
    (scM0_2.slice (Rect.unit (s := S4x2x256x7168) (k0_off5 (grid0.coords t)) S1x2x256x7168.size (k0_off5_inb (grid0.coords t))) (fun _ => rfl)).squeeze S2x256x7168 squeezes_S1x2x256x7168_S2x256x7168 = rslot0_0 (Ring.sl 4 t.val) :=
  congrArg (fun M : Memref sig .tc .vmem S1x2x256x7168 .fp8e4m3 => M.squeeze S2x256x7168 squeezes_S1x2x256x7168_S2x256x7168) (Memref.slice_unit_congr _ (coff0_0_13 t ) _ _ (fun _ => rfl) (fun _ => rfl))
set_option synthInstance.maxSize 4096 in
/-- Where an access of this point begins, in the spelling of the ring's slots and the blocks of the weights. -/
theorem coff0_0_14 : ∀ t : Fin grid0.N, k0_off4 (grid0.coords t) = ![(Ring.sl 4 t.val).val] := by decide +kernel
@[sl_canon] theorem canon0_0_14 (t : Fin grid0.N) :
    (cc0_scratch3.slice (Rect.unit (s := S4) (k0_off4 (grid0.coords t)) S1.size (k0_off4_inb (grid0.coords t)))).squeeze S_ squeezes_S1_S_ = cellA0_0 (Ring.sl 4 t.val) :=
  congrArg (fun A : DmaSems sig S1 => A.squeeze S_ squeezes_S1_S_) (SemArray.slice_unit_congr _ (coff0_0_14 t ) _ _)
set_option synthInstance.maxSize 4096 in
/-- Where an access of this point begins, in the spelling of the ring's slots and the blocks of the weights. -/
theorem coff0_0_15 : ∀ t : Fin grid0.N, ¬cond0_0 (grid0.coords t) → cond0_1 (grid0.coords t) → ¬cond0_2 (grid0.coords t) → k0_off3 (grid0.coords t) = ![0, 256 * (Ring.bk 96 (t.val + 3)).val, 0] := by decide +kernel
@[sl_canon] theorem canon0_0_15 (t : Fin grid0.N) (h0 : ¬cond0_0 (grid0.coords t)) (h1 : cond0_1 (grid0.coords t)) (h2 : ¬cond0_2 (grid0.coords t)) :
    hbM0_0.slice (Rect.unit (s := S2x24576x7168) (k0_off3 (grid0.coords t)) S2x256x7168.size (k0_off3_inb (grid0.coords t) h1)) (fun _ => rfl) = srcB0_0 (Ring.bk 96 (t.val + 3)) :=
  congrArg (fun M : Memref sig .tc .hbm S2x256x7168 .fp8e4m3 => M) (Memref.slice_unit_congr _ (coff0_0_15 t h0 h1 h2) _ _ (fun _ => rfl) (fun _ => rfl))
set_option synthInstance.maxSize 4096 in
/-- Where an access of this point begins, in the spelling of the ring's slots and the blocks of the weights. -/
theorem coff0_0_16 : ∀ t : Fin grid0.N, k0_off63 (grid0.coords t) = ![(Ring.sl 4 t.val).val, 0, 0, 0] := by decide +kernel
/-- The ring-memref load's box in the slot's spelling (the block this step waited): the executor's symbolic geometry then sees it inside that slot. -/
instance (priority := high) closedOff0_0_16 (t : Fin grid0.N) : ClosedOff (k0_off63 (grid0.coords t)) := ⟨![(Ring.sl 4 t.val).val, 0, 0, 0], coff0_0_16 t⟩
set_option synthInstance.maxSize 4096 in
/-- Where an access of this point begins, in the spelling of the ring's slots and the blocks of the weights. -/
theorem coff0_0_17 : ∀ t : Fin grid0.N, k0_off120 (grid0.coords t) = ![(Ring.sl 4 t.val).val, 1, 0, 0] := by decide +kernel
/-- The ring-memref load's box in the slot's spelling (the block this step waited): the executor's symbolic geometry then sees it inside that slot. -/
instance (priority := high) closedOff0_0_17 (t : Fin grid0.N) : ClosedOff (k0_off120 (grid0.coords t)) := ⟨![(Ring.sl 4 t.val).val, 1, 0, 0], coff0_0_17 t⟩
end Canon0_0

end Cert.KernelIdeal.Hand

end
-- ==== Proof.Spec.lean ====
module

public import proofs.«01_k».proof.Proof.Runs

@[expose] public section

set_option maxRecDepth 16384

noncomputable section

namespace Cert.KernelIdeal.Hand

open Cert.KernelIdeal.Gen
open Idealize.ShloMosaic

variable {F : FTy → Type} [FloatOps F]

/-! # What one grid point computes, as pure functions

The kernel's printed program names every intermediate value of its long unrolled text.  The functions below say the same
computation once per idea: the shared exponent of a group of 128 lanes, its scale, its codes, the row of decoded inputs
times weight scales, the product with the streamed weights, and the activation. -/

/-- The largest magnitude of each row of a group of 128 lanes, divided by 448. -/
def ymax (v : FVec F S16x128 .f32) : FVec F S16x1 .f32 :=
  mulf (shapeCast S16x1 (multiReduction .maximumf [1] S16 (absf v) 0xFF800000#32 reduces_S16x128_S16 (.inl rfl) rfl) shapeCasts_S16_S16x1)
    (broadcast S16x1 (Scalar.ofBits .f32 0x3B124925#32))

/-- The exponent of the scale: the kernel's search for the exponent field of `y`, unbiased so that two to it exceeds `y`;
    zero where the field is zero. -/
def expo (y : FVec F S16x1 .f32) : IVec S16x1 32 :=
  k0_pay5 y

/-- Two to the exponent. -/
def scaleOf (y : FVec F S16x1 .f32) : FVec F S16x1 .f32 :=
  k0_pay6 y

/-- The codes: the values over the scale, clipped to ±448 and cast. -/
def codesOf (v : FVec F S16x128 .f32) (y : FVec F S16x1 .f32) : FVec F S16x128 .fp8e4m3 :=
  k0_pay7 v y

/-- The fifty-six group numbers in order. -/
def groups : List (Fin 56) :=
  [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55]

/-- The list of groups, by index. -/
theorem groups_eq : groups = List.ofFn (fun k : Fin 56 => k) := by decide

/-- A group of lanes lies inside the row. -/
theorem group_inb (k : Fin 56) : ∀ a, (![0, 128 * k.val] : Fin 2 → ℕ) a + S16x128.size a ≤ S16x7168.size a := by
  intro a; have := k.isLt; fin_cases a
  · simp [S16x128, S16x7168]
  · simp [S16x128, S16x7168]; omega

/-- Group `k` of a row of 7168 lanes. -/
abbrev groupRect (k : Fin 56) : Rect S16x7168 := Rect.unit ![0, 128 * k.val] S16x128.size (group_inb k)

/-- The column of the weight scales a grid point reads for its half tile `b`. -/
def colOf (i : grid0.Coords) (b : Fin 2) : ℕ := k0_off7 i (BitVec.ofNat 32 b.val) 2

/-- The weight scale that a point reads lies inside its array. -/
theorem ws_inb (i : grid0.Coords) (h : Fin 2) (k : Fin 56) (b : Fin 2) :
    ∀ a, (![h.val, k.val, colOf i b] : Fin 3 → ℕ) a + S1x1x1.size a ≤ S2x56x192.size a := by
  intro a
  have hc := k0_off7_inb i b 2
  have := h.isLt; have := k.isLt
  fin_cases a
  · simp [S1x1x1, S2x56x192]; omega
  · simp [S1x1x1, S2x56x192]; omega
  · exact hc

/-- The weight scale of projection `h`, group `k`, half tile `b`. -/
def wsv (X0 : Vec F S2x56x192 .f32) (i : grid0.Coords) (h : Fin 2) (k : Fin 56) (b : Fin 2) : Elt F .f32 :=
  X0 ((Rect.unit (s := S2x56x192) ![h.val, k.val, colOf i b] S1x1x1.size (ws_inb i h k b)).idx (Shape.Idx.first (s := S1x1x1) (by decide)))

/-- Group `k` of the decoded input, times its weight scale. -/
def xpiece (X0 : Vec F S2x56x192 .f32) (XQ : Vec F S16x7168 .bf16) (i : grid0.Coords) (h : Fin 2) (b : Fin 2) (k : Fin 56) :
    FVec F S16x128 .bf16 :=
  k0_pay438 (wsv X0 i h k b) (View.ld (Val := Elt F) XQ (groupRect k))

/-- The decoded input times the weight scales of half tile `b`. -/
def xrow (X0 : Vec F S2x56x192 .f32) (XQ : Vec F S16x7168 .bf16) (i : grid0.Coords) (h : Fin 2) (b : Fin 2) :
    FVec F S16x7168 .bf16 :=
  concatenate S16x7168 1 (groups.map fun k => ⟨S16x128, xpiece X0 XQ i h b k⟩)
    concatenates_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x7168_d1

/-- Both half tiles' scaled inputs against the tile's weights. -/
def prod (X0 : Vec F S2x56x192 .f32) (XQ : Vec F S16x7168 .bf16) (W : Vec F S1x1x256x7168 .fp8e4m3) (i : grid0.Coords) (h : Fin 2) :
    FVec F S32x256 .f32 :=
  matmul dot_S32x7168_S256x7168_S32x256_1_1_0_0_n_n none
    (concatenate S32x7168 0 [⟨S16x7168, xrow X0 XQ i h 0⟩, ⟨S16x7168, xrow X0 XQ i h 1⟩] concatenates_S16x7168_S16x7168_S32x7168_d0)
    (shapeCast S256x7168 W shapeCasts_S1x1x256x7168_S256x7168 : FVec F S256x7168 .fp8e4m3) (constant S32x256 .f32 0x00000000#32)

/-- The half tile `b` of the product that pairs its own scaled input with its own weights. -/
def blk (P : FVec F S32x256 .f32) : Fin 2 → FVec F S16x128 .f32
  | 0 => extractStridedSlice S16x128 ![0, 0] P slices_S32x256_o0_0_S16x128
  | 1 => extractStridedSlice S16x128 ![16, 128] P slices_S32x256_o16_128_S16x128

/-- The activation of one half tile. -/
def actv (X0 : Vec F S2x56x192 .f32) (XQ : Vec F S16x7168 .bf16) (W0 W1 : Vec F S1x1x256x7168 .fp8e4m3) (i : grid0.Coords) (b : Fin 2) :
    FVec F S16x128 .f32 :=
  mulf (mulf (blk (prod X0 XQ W0 i 0) b) (logistic (blk (prod X0 XQ W0 i 0) b))) (blk (prod X0 XQ W1 i 1) b)

/-- One more column of the activation scales: lane `2 t + b` becomes the scale. -/
def asPut (i : grid0.Coords) (b : BitVec 32) (s : FVec F S16x1 .f32) (old : FVec F S16x192 .f32) : FVec F S16x192 .f32 :=
  select (cmpi .eq (iota .tc S16x192 32 [1] iota_S16x192_d1_w32)
      (broadcast S16x192 (Scalar.addi (Scalar.muli (BitVec.ofNat 32 (i 0).val) 2#32) b)))
    (broadcastTo S16x192 (shapeCast S16x1 s shapeCasts_S16x1_S16x1) broadcasts_S16x1_S16x192) old

/-- The activation scales after a grid point, as collected. -/
def asRaw (X0 : Vec F S2x56x192 .f32) (XQ : Vec F S16x7168 .bf16) (W0 W1 : Vec F S1x1x256x7168 .fp8e4m3) (i : grid0.Coords)
    (old : FVec F S16x192 .f32) : FVec F S16x192 .f32 :=
  asPut i 1#32 (scaleOf (ymax (actv X0 XQ W0 W1 i 1))) (asPut i 0#32 (scaleOf (ymax (actv X0 XQ W0 W1 i 0))) old)

/-- The activation scales after a grid point, as stored in the scratch row. -/
def asNew (X0 : Vec F S2x56x192 .f32) (XQ : Vec F S16x7168 .bf16) (W0 W1 : Vec F S1x1x256x7168 .fp8e4m3) (i : grid0.Coords)
    (old : FVec F S16x192 .f32) : FVec F S16x192 .f32 :=
  shapeCast S16x192 (asRaw X0 XQ W0 W1 i old) shapeCasts_S16x192_S16x192

/-- The activation scales as the last grid point stores them in the result. -/
def asOut (X0 : Vec F S2x56x192 .f32) (XQ : Vec F S16x7168 .bf16) (W0 W1 : Vec F S1x1x256x7168 .fp8e4m3) (i : grid0.Coords)
    (old : FVec F S16x192 .f32) : FVec F S16x1x192 .f32 :=
  k0_pay1 (asRaw X0 XQ W0 W1 i old)

/-- The left half of a tile's lanes. -/
abbrev leftRect : Rect S16x256 := Rect.unit ![0, 0] S16x128.size inb_S16x256_S16x128_0_0

/-- The right half. -/
abbrev rightRect : Rect S16x256 := Rect.unit ![0, 128] S16x128.size inb_S16x256_S16x128_0_128

/-- A tile stored half by half. -/
def halves {e : EltTy} (w0 w1 : Vec F S16x128 e) : Vec F S16x256 e :=
  View.canon (Val := Elt F) [⟨rightRect, w1⟩, ⟨leftRect, w0⟩]

/-- The activation tile of a grid point. -/
def actOut (X0 : Vec F S2x56x192 .f32) (XQ : Vec F S16x7168 .bf16) (W0 W1 : Vec F S1x1x256x7168 .fp8e4m3) (i : grid0.Coords) :
    Vec F S16x256 .bf16 :=
  halves (truncf .bf16 (actv X0 XQ W0 W1 i 0) bitsLt_bf16_f32) (truncf .bf16 (actv X0 XQ W0 W1 i 1) bitsLt_bf16_f32)

/-- The tile of activation codes of a grid point. -/
def acOut (X0 : Vec F S2x56x192 .f32) (XQ : Vec F S16x7168 .bf16) (W0 W1 : Vec F S1x1x256x7168 .fp8e4m3) (i : grid0.Coords) :
    Vec F S16x256 .fp8e4m3 :=
  halves (codesOf (actv X0 XQ W0 W1 i 0) (ymax (actv X0 XQ W0 W1 i 0))) (codesOf (actv X0 XQ W0 W1 i 1) (ymax (actv X0 XQ W0 W1 i 1)))

/-- The first point's group `k` of the input, as read. -/
def xg (X1 : Vec F S16x7168 .bf16) (k : Fin 56) : FVec F S16x128 .f32 :=
  extf .f32 (shapeCast S16x128 (View.ld (Val := Elt F) X1 (groupRect k)) shapeCasts_S16x128_S16x128 : FVec F S16x128 .bf16) bitsLt_bf16_f32

/-- The groups from last to first, the order in which the stores are listed. -/
def groupsDown : List (Fin 56) :=
  [55, 54, 53, 52, 51, 50, 49, 48, 47, 46, 45, 44, 43, 42, 41, 40, 39, 38, 37, 36, 35, 34, 33, 32, 31, 30, 29, 28, 27, 26, 25, 24, 23, 22, 21, 20, 19, 18, 17, 16, 15, 14, 13, 12, 11, 10, 9, 8, 7, 6, 5, 4, 3, 2, 1, 0]

/-- Fifty-six stores, one per group. -/
def groupPieces {e : EltTy} (w : Fin 56 → Vec F S16x128 e) : List (View.Piece (Elt F) S16x7168 e) :=
  groupsDown.map fun k => ⟨groupRect k, w k⟩

/-- The input's codes. -/
def xcOut (X1 : Vec F S16x7168 .bf16) : Vec F S16x7168 .fp8e4m3 :=
  View.canon (groupPieces fun k => codesOf (xg X1 k) (ymax (xg X1 k)))

/-- The decoded input. -/
def xqOut (X1 : Vec F S16x7168 .bf16) : Vec F S16x7168 .bf16 :=
  View.canon (groupPieces fun k => k0_pay9 (k0_pay8 (xg X1 k) (ymax (xg X1 k))))

/-- The input's scales, collected lane by lane. -/
def xsAcc (X1 : Vec F S16x7168 .bf16) : FVec F S16x56 .f32 :=
  groups.foldl (fun acc k => select (cmpi .eq (iota .tc S16x56 32 [1] iota_S16x56_d1_w32) (broadcast S16x56 (BitVec.ofNat 32 k.val)))
    (broadcastTo S16x56 (shapeCast S16x1 (scaleOf (ymax (xg X1 k))) shapeCasts_S16x1_S16x1) broadcasts_S16x1_S16x56) acc)
    (broadcast S16x56 (Scalar.ofBits .f32 0x00000000#32))

/-- The input's scales as they are stored. -/
def xsOut (X1 : Vec F S16x7168 .bf16) : FVec F S16x1x56 .f32 :=
  shapeCast S16x1x56 (xsAcc X1) shapeCasts_S16x56_S16x1x56

/-- The tile's weights for projection 0, as loaded from the ring slot the arrived transfer filled. -/
def wload0 (c : Dev nD) (t : Fin cfg0.N) (fh0 : HbBuf0 (F := F) c hbM0_0) : Vec F S1x1x256x7168 .fp8e4m3 :=
  View.readAt (Elt F) scM0_2.view (Rect.unit (s := S4x2x256x7168) (k0_off63 (grid0.coords t)) S1x1x256x7168.size (k0_off63_inb (grid0.coords t))).toLoadRect
    ((rslot0_0 (Ring.sl 4 t.val)).view.writes (Elt F) (rslot0_0 (Ring.sl 4 t.val)).view.junk
      [⟨Rect.whole S2x256x7168, ReadAs.same.apply (View.read (Elt F) (srcB0_0 (Ring.bk 96 t.val)).view fh0)⟩])

/-- The tile's weights for projection 1, likewise. -/
def wload1 (c : Dev nD) (t : Fin cfg0.N) (fh0 : HbBuf0 (F := F) c hbM0_0) : Vec F S1x1x256x7168 .fp8e4m3 :=
  View.readAt (Elt F) scM0_2.view (Rect.unit (s := S4x2x256x7168) (k0_off120 (grid0.coords t)) S1x1x256x7168.size (k0_off120_inb (grid0.coords t))).toLoadRect
    ((rslot0_0 (Ring.sl 4 t.val)).view.writes (Elt F) (rslot0_0 (Ring.sl 4 t.val)).view.junk
      [⟨Rect.whole S2x256x7168, ReadAs.same.apply (View.read (Elt F) (srcB0_0 (Ring.bk 96 t.val)).view fh0)⟩])

end Cert.KernelIdeal.Hand

end
-- ==== Proof.Rows.lean ====
module
public import proofs.«01_k».proof.Proof.Spec
@[expose] public section
set_option maxRecDepth 65536
noncomputable section
namespace Cert.KernelIdeal.Hand
open Cert.KernelIdeal.Gen
open Idealize.ShloMosaic
variable {F : FTy → Type} [FloatOps F]

/-- Two lists of pieces that are equal concatenate to the same vector. -/
theorem concat_congr {α : Type} {t : Shape} {a : Fin t.rank} {xs ys : List ((s : Shape) × (s.Idx → α))} (e : xs = ys)
    (h : Shape.Concatenates (xs.map (·.1)) t a) (h' : Shape.Concatenates (ys.map (·.1)) t a) :
    concatenate t a xs h = concatenate t a ys h' := by
  subst e; rfl

/-- The product over two rows of pieces is `prod` where the rows are the scaled inputs. -/
theorem prod_of {X0 : Vec F S2x56x192 .f32} {XQ : Vec F S16x7168 .bf16} {W : Vec F S1x1x256x7168 .fp8e4m3} {i : grid0.Coords} {h : Fin 2}
    {r0 r1 : FVec F S16x7168 .bf16} (e0 : r0 = xrow X0 XQ i h 0) (e1 : r1 = xrow X0 XQ i h 1) :
    matmul dot_S32x7168_S256x7168_S32x256_1_1_0_0_n_n none
      (concatenate S32x7168 0 [⟨S16x7168, r0⟩, ⟨S16x7168, r1⟩] concatenates_S16x7168_S16x7168_S32x7168_d0)
      (shapeCast S256x7168 W shapeCasts_S1x1x256x7168_S256x7168 : FVec F S256x7168 .fp8e4m3) (constant S32x256 .f32 0x00000000#32)
      = prod X0 XQ W i h := by
  subst e0; subst e1; rfl

/-- A rectangle that is the whole shape moves no index. -/
theorem unit_full_idx {s : Shape} {off : Fin s.rank → ℕ} (h : ∀ a, off a + s.size a ≤ s.size a) (x : s.Idx) :
    (Rect.unit off s.size h).idx x = x := by
  funext a; apply Fin.ext
  have := h a
  show off a + 1 * (x a).val = (x a).val
  omega

/-- After a store through the whole shape the view reads what was stored. -/
theorem read_full {sig : RefSig} {κ : Kind} {sp : Space} {s : Shape} {e : EltTy} {Val : EltTy → Type} (v : View sig κ sp s e)
    (f : v.ty.Contents Val) {off : Fin s.rank → ℕ} (h : ∀ a, off a + s.size a ≤ s.size a) (w : s.Idx → Val e) :
    v.read Val (v.writes Val f [⟨Rect.unit off s.size h, w⟩]) = w := by
  funext x
  have := View.read_writes_cons_emb v f (Rect.unit off s.size h) w [] x
  rwa [show (Rect.unit off s.size h).emb x = x from unit_full_idx h x] at this

/-- A load through the whole shape reads the contents. -/
theorem readAt_full {sig : RefSig} {κ : Kind} {sp : Space} {s : Shape} {e : EltTy} {Val : EltTy → Type} (v : View sig κ sp s e)
    (f : v.ty.Contents Val) {off : Fin s.rank → ℕ} (h : ∀ a, off a + s.size a ≤ s.size a) :
    v.readAt Val (Rect.unit off s.size h).toLoadRect f = v.read Val f := by
  funext x
  exact congrArg (v.read Val f) (unit_full_idx h x)

/-- The two half stores cover the tile. -/
theorem read_halves {sig : RefSig} {κ : Kind} {sp : Space} {e : EltTy} (v : View sig κ sp S16x256 e) (f : v.ty.Contents (Elt F))
    (w0 w1 : Vec F S16x128 e) :
    v.read (Elt F) (v.writes (Elt F) f [⟨rightRect, w1⟩, ⟨leftRect, w0⟩]) = halves w0 w1 := by
  refine View.read_writes_eq_canon v f _ fun y => ?_
  by_cases hy : (y 1).val < 128
  · refine ⟨_, List.mem_cons_of_mem _ (List.mem_singleton_self _), ?_⟩
    rw [Rect.mem_set_unit]
    intro a; have := (y 0).isLt; fin_cases a
    · exact ⟨Nat.zero_le _, by simpa [S16x128] using this⟩
    · exact ⟨Nat.zero_le _, by simpa [S16x128] using hy⟩
  · refine ⟨_, List.mem_cons_self, ?_⟩
    rw [Rect.mem_set_unit]
    intro a; have := (y 0).isLt; have h1 := (y 1).isLt; fin_cases a
    · exact ⟨Nat.zero_le _, by simpa [S16x128] using this⟩
    · simp [S16x128, S16x256] at hy h1 ⊢; omega

/-- Every group is in the list of groups. -/
theorem mem_groupsDown : ∀ k : Fin 56, k ∈ groupsDown := by decide

/-- The fifty-six group stores cover the row. -/
theorem read_groups {sig : RefSig} {κ : Kind} {sp : Space} {e : EltTy} (v : View sig κ sp S16x7168 e) (f : v.ty.Contents (Elt F))
    (w : Fin 56 → Vec F S16x128 e) :
    v.read (Elt F) (v.writes (Elt F) f (groupPieces w)) = View.canon (groupPieces w) := by
  refine View.read_writes_eq_canon v f _ fun y => ?_
  have h1 := (y 1).isLt
  have h1' : (y 1).val < 7168 := h1
  have hk : (y 1).val / 128 < 56 := by omega
  refine ⟨_, List.mem_map_of_mem (a := ⟨(y 1).val / 128, hk⟩) (mem_groupsDown _), ?_⟩
  rw [Rect.mem_set_unit]
  intro a; have := (y 0).isLt; fin_cases a
  · exact ⟨Nat.zero_le _, by simpa [S16x128] using this⟩
  · simp [S16x128]; omega

end Cert.KernelIdeal.Hand
end
-- ==== Proof.RunA.lean ====
module

public import proofs.«01_k».proof.Proof.Rows

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 7716000 in
/-- The body at the first grid point: what each buffer holds afterwards, as the functions of `Spec`. -/
theorem kernelRun0_A (c : Dev nD) (t : Fin cfg0.N) (arg1 : Memref sig .tc .smem S2x56x192 .f32) (harg1 : arg1.IsWhole) (arg2 : Memref sig .tc .vmem S16x7168 .bf16) (harg2 : arg2.IsWhole) (arg4 : Memref sig .tc .vmem S16x256 .bf16) (harg4 : arg4.IsWhole) (arg5 : Memref sig .tc .vmem S16x7168 .fp8e4m3) (harg5 : arg5.IsWhole) (arg6 : Memref sig .tc .vmem S16x1x56 .f32) (harg6 : arg6.IsWhole) (arg7 : Memref sig .tc .vmem S16x256 .fp8e4m3) (harg7 : arg7.IsWhole) (arg8 : Memref sig .tc .vmem S16x1x192 .f32) (harg8 : arg8.IsWhole) (arg9 : Memref sig .tc .vmem S16x7168 .bf16) (harg9 : arg9.IsWhole) (arg10 : Memref sig .tc .vmem S16x192 .f32) (harg10 : arg10.IsWhole) (hc0 : cond0_0 (grid0.coords t)) (hc1 : cond0_1 (grid0.coords t)) (hc2 : ¬cond0_2 (grid0.coords t))
    (x0 : Vec F S2x56x192 .f32) (x1 : Vec F S16x7168 .bf16) (fh0 : HbBuf0 (F := F) c hbM0_0) :
      ∀ (d2 : Vec F S16x256 .bf16) (d3 : Vec F S16x7168 .fp8e4m3) (d4 : Vec F S16x1x56 .f32) (d5 : Vec F S16x256 .fp8e4m3) (d6 : Vec F S16x1x192 .f32) (ds0 : Vec F S16x7168 .bf16) (ds1 : Vec F S16x192 .f32) (W : Waits sig Unit) (K : PUnit → sProp 𝕄),
        iprop(owns (c : Thread nD τ) arg1 fullShare x0 ∗ owns (c : Thread nD τ) arg2 fullShare x1 ∗ owns (c : Thread nD τ) arg4 fullShare d2 ∗ owns (c : Thread nD τ) arg5 fullShare d3 ∗ owns (c : Thread nD τ) arg6 fullShare d4 ∗ owns (c : Thread nD τ) arg7 fullShare d5 ∗ owns (c : Thread nD τ) arg8 fullShare d6 ∗ owns (c : Thread nD τ) arg9 fullShare ds0 ∗ owns (c : Thread nD τ) arg10 fullShare ds1 ∗ Ring.free (cellP0_0 c) (slotW0_0 c fh0) (Ring.sl 4 t.val) ∗ Ring.free (cellP0_0 c) (slotW0_0 c fh0) (Ring.sl 4 (t.val + 1)) ∗ Ring.free (cellP0_0 c) (slotW0_0 c fh0) (Ring.sl 4 (t.val + 2)) ∗ Ring.free (cellP0_0 c) (slotW0_0 c fh0) (Ring.sl 4 (t.val + 3)) ∗ owes (c : Thread nD τ) 0 W
            ∗ (iprop(owns (c : Thread nD τ) arg1 fullShare x0 ∗ owns (c : Thread nD τ) arg2 fullShare x1 ∗ owns (c : Thread nD τ) arg4 fullShare (actOut x0 (xqOut x1) (wload0 c t fh0) (wload1 c t fh0) (grid0.coords t)) ∗ owns (c : Thread nD τ) arg5 fullShare (xcOut x1) ∗ owns (c : Thread nD τ) arg6 fullShare (xsOut x1) ∗ owns (c : Thread nD τ) arg7 fullShare (acOut x0 (xqOut x1) (wload0 c t fh0) (wload1 c t fh0) (grid0.coords t)) ∗ owns (c : Thread nD τ) arg8 fullShare d6 ∗ owns (c : Thread nD τ) arg9 fullShare (xqOut x1) ∗ owns (c : Thread nD τ) arg10 fullShare (asNew x0 (xqOut x1) (wload0 c t fh0) (wload1 c t fh0) (grid0.coords t) ds1) ∗ Ring.inflight (flightW0_0 c fh0) (Ring.sl 4 (t.val + 1)) (Ring.bk 96 (t.val + 1)) ∗ Ring.inflight (flightW0_0 c fh0) (Ring.sl 4 (t.val + 2)) (Ring.bk 96 (t.val + 2)) ∗ Ring.inflight (flightW0_0 c fh0) (Ring.sl 4 (t.val + 3)) (Ring.bk 96 (t.val + 3)) ∗ Ring.free (cellP0_0 c) (slotW0_0 c fh0) (Ring.sl 4 t.val) ∗ (∃ W', owes (c : Thread nD τ) 0 W')) -∗ K ⟨⟩))
          ⊢ wp frame (wpE (defs₀ (F := F)) Variants.none c none) Set.univ (cc0_swiglu_fp8 (grid0.coords t) arg1 harg1 arg2 harg2 (Memref.whole main_arg1) (Memref.isWhole_whole _) arg4 harg4 arg5 harg5 arg6 harg6 arg7 harg7 arg8 harg8 arg9 harg9 arg10 harg10 scM0_2 (Memref.isWhole_whole _) cc0_scratch3) K := by
    intro d2 d3 d4 d5 d6 ds0 ds1 W K
    haveI : Fact (cond0_0 (grid0.coords t)) := ⟨hc0⟩
    haveI : Fact (cond0_1 (grid0.coords t)) := ⟨hc1⟩
    haveI : Fact (¬cond0_2 (grid0.coords t)) := ⟨hc2⟩
    simp only [cc0_swiglu_fp8_eq_skeleton]; unfold cc0_swiglu_fp8_skel
    simp only [k0_part135_eq_skeleton, k0_part79_eq_skeleton, k0_part78_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton]
    have hcanon0 := canon0_0_1 t hc0 hc1 hc2
    have hcanon1 := canon0_0_2 t hc0 hc1 hc2
    have hcanon2 := canon0_0_3 t hc0 hc1 hc2
    have hcanon3 := canon0_0_4 t hc0 hc1 hc2
    have hcanon4 := canon0_0_5 t hc0 hc1 hc2
    have hcanon5 := canon0_0_6 t hc0 hc1 hc2
    have hcanon6 := canon0_0_7 t hc0 hc1 hc2
    have hcanon7 := canon0_0_8 t hc0 hc1 hc2
    have hcanon8 := canon0_0_9 t hc0 hc1 hc2
    unfold owns Ring.free Ring.inflight
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨Hc0_0_0, ⟨%fs0_0_0, Hs0_0_0, Hw0_0_0⟩⟩, ⟨Hc0_0_1, ⟨%fs0_0_1, Hs0_0_1, Hw0_0_1⟩⟩, ⟨Hc0_0_2, ⟨%fs0_0_2, Hs0_0_2, Hw0_0_2⟩⟩, ⟨Hc0_0_3, ⟨%fs0_0_3, Hs0_0_3, Hw0_0_3⟩⟩, HW, Hk⟩
    ihave Hsp0_0_0 := (src0_0_split c fh0 (Ring.sl 4 t.val) (Ring.bk 96 t.val)).1 $$ Hw0_0_0
    icases Hsp0_0_0 with ⟨Hh0_0_0, Hr0_0_0⟩
    ihave Hsp0_0_1 := (src0_0_split c fh0 (Ring.sl 4 (t.val + 1)) (Ring.bk 96 (t.val + 1))).1 $$ Hw0_0_1
    icases Hsp0_0_1 with ⟨Hh0_0_1, Hr0_0_1⟩
    ihave Hsp0_0_2 := (src0_0_split c fh0 (Ring.sl 4 (t.val + 2)) (Ring.bk 96 (t.val + 2))).1 $$ Hw0_0_2
    icases Hsp0_0_2 with ⟨Hh0_0_2, Hr0_0_2⟩
    ihave Hsp0_0_3 := (src0_0_split c fh0 (Ring.sl 4 (t.val + 3)) (Ring.bk 96 (t.val + 3))).1 $$ Hw0_0_3
    icases Hsp0_0_3 with ⟨Hh0_0_3, Hr0_0_3⟩
    obtain rfl := harg1.eq_unread hf0; obtain rfl := harg2.eq_unread hf1
    sl_exec (disch := first | sl_exact hc0 | sl_exact hc1 | sl_exact hc2)
    have eL : kernelRun0_A.sl.HS0_56 c arg2 harg2 (F := F) x1 = groupPieces (fun k => k0_pay9 (k0_pay8 (xg (arg2.view.read (Elt F) (harg2.unread x1)) k) (ymax (xg (arg2.view.read (Elt F) (harg2.unread x1)) k)))) := by
      delta kernelRun0_A.sl.HS0_56 groupPieces groupsDown
      simp only [List.map_cons, List.map_nil]
      repeat' refine congrArg₂ List.cons rfl ?_
      rfl
    have eXs : k0_pay437 kernelRun0_A.sl.v1962 (kernelRun0_A.sl.r_212 c arg2 harg2 x1) (kernelRun0_A.sl.r_213 c arg2 harg2 x1) = xsOut (arg2.view.read (Elt F) (harg2.unread x1)) := by
      delta xsOut xsAcc groups
      simp only [List.foldl_cons, List.foldl_nil]
      rfl
    rw [hf1] at eL eXs
    obtain ⟨X0, hX0'⟩ : ∃ X0, arg1.view.read (Elt F) (harg1.unread x0) = X0 := ⟨_, rfl⟩
    obtain ⟨XQ, hXQ'⟩ : ∃ XQ, arg9.view.read (Elt F) (arg9.view.writes (Elt F) arg9.view.junk (kernelRun0_A.sl.HS0_56 c arg2 harg2 x1)) = XQ := ⟨_, rfl⟩
    have e00 : (kernelRun0_A.sl.r_331 c t arg1 harg1 arg2 harg2 arg9 x0 x1) = xrow X0 XQ (grid0.coords t) 0 0 := by
      rw [← hX0', ← hXQ']
      delta kernelRun0_A.sl.r_331 xrow k0_pay496 groups
      refine concat_congr ?_ _ _
      repeat' refine congrArg₂ List.cons rfl ?_
      rfl
    have eP0 : (kernelRun0_A.sl.r_443 c t arg1 harg1 arg2 harg2 arg9 x0 x1 fh0) = blk (prod X0 XQ (wload0 c t fh0) (grid0.coords t) 0) 0 := by
      delta kernelRun0_A.sl.r_443 k0_pay555 k0_pay554
      refine congrArg (fun P => extractStridedSlice S16x128 ![0, 0] P slices_S32x256_o0_0_S16x128) (prod_of (W := (wload0 c t fh0)) e00 ?_)
      rw [← hX0', ← hXQ']
      delta xrow groups
      refine concat_congr ?_ _ _
      repeat' refine congrArg₂ List.cons rfl ?_
      rfl
    have eP0' : (kernelRun0_A.sl.r_444 c t arg1 harg1 arg2 harg2 arg9 x0 x1 fh0) = blk (prod X0 XQ (wload0 c t fh0) (grid0.coords t) 0) 1 := by
      delta kernelRun0_A.sl.r_444 k0_pay556 k0_pay554
      refine congrArg (fun P => extractStridedSlice S16x128 ![16, 128] P slices_S32x256_o16_128_S16x128) (prod_of (W := (wload0 c t fh0)) e00 ?_)
      rw [← hX0', ← hXQ']
      delta xrow groups
      refine concat_congr ?_ _ _
      repeat' refine congrArg₂ List.cons rfl ?_
      rfl
    have e10 : (kernelRun0_A.sl.r_556 c t arg1 harg1 arg2 harg2 arg9 x0 x1) = xrow X0 XQ (grid0.coords t) 1 0 := by
      rw [← hX0', ← hXQ']
      delta kernelRun0_A.sl.r_556 xrow k0_pay612 groups
      refine concat_congr ?_ _ _
      repeat' refine congrArg₂ List.cons rfl ?_
      rfl
    have eO0 : (kernelRun0_A.sl.r_676 c t arg1 harg1 arg2 harg2 arg9 x0 x1 fh0) = actv X0 XQ (wload0 c t fh0) (wload1 c t fh0) (grid0.coords t) 0 := by
      delta kernelRun0_A.sl.r_676 k0_pay676 k0_pay674
      rw [eP0]
      refine congrArg (fun P => mulf (mulf _ (logistic _)) (extractStridedSlice S16x128 ![0, 0] P slices_S32x256_o0_0_S16x128)) (prod_of (W := (wload1 c t fh0)) e10 ?_)
      rw [← hX0', ← hXQ']
      delta xrow groups
      refine concat_congr ?_ _ _
      repeat' refine congrArg₂ List.cons rfl ?_
      rfl
    have eP1' : (kernelRun0_A.sl.r_674 c t arg1 harg1 arg2 harg2 arg9 x0 x1 fh0) = blk (prod X0 XQ (wload1 c t fh0) (grid0.coords t) 1) 1 := by
      delta kernelRun0_A.sl.r_674 k0_pay675 k0_pay674
      refine congrArg (fun P => extractStridedSlice S16x128 ![16, 128] P slices_S32x256_o16_128_S16x128) (prod_of (W := (wload1 c t fh0)) e10 ?_)
      rw [← hX0', ← hXQ']
      delta xrow groups
      refine concat_congr ?_ _ _
      repeat' refine congrArg₂ List.cons rfl ?_
      rfl
    have eO1 : (kernelRun0_A.sl.r_680 c t arg1 harg1 arg2 harg2 arg9 x0 x1 fh0) = actv X0 XQ (wload0 c t fh0) (wload1 c t fh0) (grid0.coords t) 1 := by
      delta kernelRun0_A.sl.r_680
      rw [eP0', eP1']; rfl
    have eE0 : (kernelRun0_A.sl.r_677 c t arg1 harg1 arg2 harg2 arg9 x0 x1 fh0) = expo (ymax (kernelRun0_A.sl.r_676 c t arg1 harg1 arg2 harg2 arg9 x0 x1 fh0)) := by
      delta kernelRun0_A.sl.r_677 kernelRun0_A.sl.r_676 k0_pay677
      rfl
    have eS1 : (kernelRun0_A.sl.r_681 c t arg1 harg1 arg2 harg2 arg9 x0 x1 fh0) = cmpf .oge (broadcastTo S16x256 (ymax (kernelRun0_A.sl.r_680 c t arg1 harg1 arg2 harg2 arg9 x0 x1 fh0)) broadcasts_S16x1_S16x256)
        (bitcastToFloat .f32 (shli k0_pay683 (broadcast S16x256 23#32))) := by
      delta kernelRun0_A.sl.r_681 kernelRun0_A.sl.r_680 k0_pay684
      rfl
    have eC0 : k0_pay679 (kernelRun0_A.sl.r_676 c t arg1 harg1 arg2 harg2 arg9 x0 x1 fh0) (kernelRun0_A.sl.r_677 c t arg1 harg1 arg2 harg2 arg9 x0 x1 fh0) = codesOf (actv X0 XQ (wload0 c t fh0) (wload1 c t fh0) (grid0.coords t) 0) (ymax (actv X0 XQ (wload0 c t fh0) (wload1 c t fh0) (grid0.coords t) 0)) := by
      rw [eE0, eO0]; rfl
    have eC1 : k0_pay688 (kernelRun0_A.sl.r_680 c t arg1 harg1 arg2 harg2 arg9 x0 x1 fh0) (kernelRun0_A.sl.r_681 c t arg1 harg1 arg2 harg2 arg9 x0 x1 fh0) k0_pay685 k0_pay686 = codesOf (actv X0 XQ (wload0 c t fh0) (wload1 c t fh0) (grid0.coords t) 1) (ymax (actv X0 XQ (wload0 c t fh0) (wload1 c t fh0) (grid0.coords t) 1)) := by
      rw [eS1, eO1]; rfl
    have eOld : kernelRun0_A.sl.r_675 c arg10 fs1 = ds1 := (readAt_full arg10.view fs1 _).trans hfs1
    have eA : (kernelRun0_A.sl.r_682 c t arg1 harg1 arg2 harg2 arg9 arg10 x0 x1 fh0 fs1) = asRaw X0 XQ (wload0 c t fh0) (wload1 c t fh0) (grid0.coords t) ds1 := by
      have eE0' := eE0
      rw [eO0] at eE0'
      delta kernelRun0_A.sl.r_677 at eE0'
      delta kernelRun0_A.sl.r_682 kernelRun0_A.sl.r_679 kernelRun0_A.sl.r_678 k0_pay678
      rw [eS1, eO1, eOld]
      simp only [eE0']
      rfl
    have eA1 : (kernelRun0_A.sl.r_683 c t arg1 harg1 arg2 harg2 arg9 arg10 x0 x1 fh0 fs1) = asNew X0 XQ (wload0 c t fh0) (wload1 c t fh0) (grid0.coords t) ds1 := congrArg (fun z => shapeCast S16x192 z shapeCasts_S16x192_S16x192) eA
    obtain rfl : X0 = x0 := hX0'.symm.trans hf0
    obtain rfl : XQ = xqOut x1 := by
      rw [← hXQ', eL, View.read_writes_junk_eq_canon]; rfl
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro; exact (read_halves _ _ _ _).trans (congrArg₂ halves (congrArg (fun z => truncf .bf16 z bitsLt_bf16_f32) eO0) (congrArg (fun z => truncf .bf16 z bitsLt_bf16_f32) eO1))
    isplitl [H3]
    · iexists _; isplitr; swap; · iexact H3
      ipureintro; refine (congrArg (fun L => arg5.view.read (Elt F) (arg5.view.writes (Elt F) f3 L)) (?_ : _ = groupPieces (fun k => codesOf (xg (arg2.view.read (Elt F) (harg2.unread x1)) k) (ymax (xg (arg2.view.read (Elt F) (harg2.unread x1)) k))))).trans ((read_groups _ _ _).trans ?_)
      · delta groupPieces groupsDown
        simp only [List.map_cons, List.map_nil]
        repeat' refine congrArg₂ List.cons rfl ?_
        rfl
      · rw [hf1]; rfl
    isplitl [H4]
    · iexists _; isplitr; swap; · iexact H4
      ipureintro; exact (read_full _ _ _ _).trans eXs
    isplitl [H5]
    · iexists _; isplitr; swap; · iexact H5
      ipureintro; exact (read_halves _ _ _ _).trans (congrArg₂ halves eC0 eC1)
    isplitl [H6]
    · iexists _; isplitr; swap; · iexact H6
      ipureintro; exact hf6
    isplitl [HS0]
    · iexists _; isplitr; swap; · iexact HS0
      ipureintro; exact (congrArg (fun L => arg9.view.read (Elt F) (arg9.view.writes (Elt F) fs0 L)) eL).trans (read_groups _ _ _)
    isplitl [HS1]
    · iexists _; isplitr; swap; · iexact HS1
      ipureintro; exact (read_full _ _ _ _).trans eA1
    isplitl [Hc0_0_1 Hr0_0_1]
    · iexists _; isplitl [Hc0_0_1]; · iexact Hc0_0_1
      iexact Hr0_0_1
    isplitl [Hc0_0_2 Hr0_0_2]
    · iexists _; isplitl [Hc0_0_2]; · iexact Hc0_0_2
      iexact Hr0_0_2
    isplitl [Hc0_0_3 Hr0_0_3]
    · iexists _; isplitl [Hc0_0_3]; · iexact Hc0_0_3
      iexact Hr0_0_3
    isplitl [Hc0_0_0 Hs0_0_0 Hh0_0_0 Hr0_0_0]
    · isplitl [Hc0_0_0]; · iexact Hc0_0_0
      iexists _; isplitl [Hs0_0_0]; · iexact Hs0_0_0
      iapply (src0_0_split c fh0 (Ring.sl 4 t.val) (Ring.bk 96 t.val)).2; isplitl [Hh0_0_0]; · iexact Hh0_0_0
      iexact Hr0_0_0
    iexists _; iexact HW

end Cert.KernelIdeal.Hand

end
-- ==== Proof.RunB.lean ====
module

public import proofs.«01_k».proof.Proof.Rows

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 5168000 in
/-- The body at a grid point after the first that still prefetches: what each buffer holds afterwards, as the functions of `Spec`. -/
theorem kernelRun0_B (c : Dev nD) (t : Fin cfg0.N) (arg1 : Memref sig .tc .smem S2x56x192 .f32) (harg1 : arg1.IsWhole) (arg2 : Memref sig .tc .vmem S16x7168 .bf16) (harg2 : arg2.IsWhole) (arg4 : Memref sig .tc .vmem S16x256 .bf16) (harg4 : arg4.IsWhole) (arg5 : Memref sig .tc .vmem S16x7168 .fp8e4m3) (harg5 : arg5.IsWhole) (arg6 : Memref sig .tc .vmem S16x1x56 .f32) (harg6 : arg6.IsWhole) (arg7 : Memref sig .tc .vmem S16x256 .fp8e4m3) (harg7 : arg7.IsWhole) (arg8 : Memref sig .tc .vmem S16x1x192 .f32) (harg8 : arg8.IsWhole) (arg9 : Memref sig .tc .vmem S16x7168 .bf16) (harg9 : arg9.IsWhole) (arg10 : Memref sig .tc .vmem S16x192 .f32) (harg10 : arg10.IsWhole) (hc0 : ¬cond0_0 (grid0.coords t)) (hc1 : cond0_1 (grid0.coords t)) (hc2 : ¬cond0_2 (grid0.coords t))
    (x0 : Vec F S2x56x192 .f32) (x1 : Vec F S16x7168 .bf16) (fh0 : HbBuf0 (F := F) c hbM0_0) :
      ∀ (d2 : Vec F S16x256 .bf16) (d3 : Vec F S16x7168 .fp8e4m3) (d4 : Vec F S16x1x56 .f32) (d5 : Vec F S16x256 .fp8e4m3) (d6 : Vec F S16x1x192 .f32) (ds0 : Vec F S16x7168 .bf16) (ds1 : Vec F S16x192 .f32) (W : Waits sig Unit) (K : PUnit → sProp 𝕄),
        iprop(owns (c : Thread nD τ) arg1 fullShare x0 ∗ owns (c : Thread nD τ) arg2 fullShare x1 ∗ owns (c : Thread nD τ) arg4 fullShare d2 ∗ owns (c : Thread nD τ) arg5 fullShare d3 ∗ owns (c : Thread nD τ) arg6 fullShare d4 ∗ owns (c : Thread nD τ) arg7 fullShare d5 ∗ owns (c : Thread nD τ) arg8 fullShare d6 ∗ owns (c : Thread nD τ) arg9 fullShare ds0 ∗ owns (c : Thread nD τ) arg10 fullShare ds1 ∗ Ring.inflight (flightW0_0 c fh0) (Ring.sl 4 t.val) (Ring.bk 96 t.val) ∗ Ring.inflight (flightW0_0 c fh0) (Ring.sl 4 (t.val + 1)) (Ring.bk 96 (t.val + 1)) ∗ Ring.inflight (flightW0_0 c fh0) (Ring.sl 4 (t.val + 2)) (Ring.bk 96 (t.val + 2)) ∗ Ring.free (cellP0_0 c) (slotW0_0 c fh0) (Ring.sl 4 (t.val + 3)) ∗ owes (c : Thread nD τ) 0 W
            ∗ (iprop(owns (c : Thread nD τ) arg1 fullShare x0 ∗ owns (c : Thread nD τ) arg2 fullShare x1 ∗ owns (c : Thread nD τ) arg4 fullShare (actOut x0 ds0 (wload0 c t fh0) (wload1 c t fh0) (grid0.coords t)) ∗ owns (c : Thread nD τ) arg5 fullShare d3 ∗ owns (c : Thread nD τ) arg6 fullShare d4 ∗ owns (c : Thread nD τ) arg7 fullShare (acOut x0 ds0 (wload0 c t fh0) (wload1 c t fh0) (grid0.coords t)) ∗ owns (c : Thread nD τ) arg8 fullShare d6 ∗ owns (c : Thread nD τ) arg9 fullShare ds0 ∗ owns (c : Thread nD τ) arg10 fullShare (asNew x0 ds0 (wload0 c t fh0) (wload1 c t fh0) (grid0.coords t) ds1) ∗ Ring.inflight (flightW0_0 c fh0) (Ring.sl 4 (t.val + 1)) (Ring.bk 96 (t.val + 1)) ∗ Ring.inflight (flightW0_0 c fh0) (Ring.sl 4 (t.val + 2)) (Ring.bk 96 (t.val + 2)) ∗ Ring.inflight (flightW0_0 c fh0) (Ring.sl 4 (t.val + 3)) (Ring.bk 96 (t.val + 3)) ∗ Ring.free (cellP0_0 c) (slotW0_0 c fh0) (Ring.sl 4 t.val) ∗ (∃ W', owes (c : Thread nD τ) 0 W')) -∗ K ⟨⟩))
          ⊢ wp frame (wpE (defs₀ (F := F)) Variants.none c none) Set.univ (cc0_swiglu_fp8 (grid0.coords t) arg1 harg1 arg2 harg2 (Memref.whole main_arg1) (Memref.isWhole_whole _) arg4 harg4 arg5 harg5 arg6 harg6 arg7 harg7 arg8 harg8 arg9 harg9 arg10 harg10 scM0_2 (Memref.isWhole_whole _) cc0_scratch3) K := by
    intro d2 d3 d4 d5 d6 ds0 ds1 W K
    haveI : Fact (¬cond0_0 (grid0.coords t)) := ⟨hc0⟩
    haveI : Fact (cond0_1 (grid0.coords t)) := ⟨hc1⟩
    haveI : Fact (¬cond0_2 (grid0.coords t)) := ⟨hc2⟩
    simp only [cc0_swiglu_fp8_eq_skeleton]; unfold cc0_swiglu_fp8_skel
    simp only [k0_part135_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton]
    unfold owns Ring.free Ring.inflight
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%ff0_0_0, Hf0_0_0, Hrf0_0_0⟩, ⟨%ff0_0_1, Hf0_0_1, Hrf0_0_1⟩, ⟨%ff0_0_2, Hf0_0_2, Hrf0_0_2⟩, ⟨Hc0_0_3, ⟨%fs0_0_3, Hs0_0_3, Hw0_0_3⟩⟩, HW, Hk⟩
    ihave Hsp0_0_3 := (src0_0_split c fh0 (Ring.sl 4 (t.val + 3)) (Ring.bk 96 (t.val + 3))).1 $$ Hw0_0_3
    icases Hsp0_0_3 with ⟨Hh0_0_3, Hr0_0_3⟩
    obtain rfl := harg1.eq_unread hf0; obtain rfl := harg2.eq_unread hf1
    sl_exec (disch := first | sl_exact hc0 | sl_exact hc1 | sl_exact hc2)
    obtain ⟨X0, hX0'⟩ : ∃ X0, arg1.view.read (Elt F) (harg1.unread x0) = X0 := ⟨_, rfl⟩
    obtain ⟨XQ, hXQ'⟩ : ∃ XQ, arg9.view.read (Elt F) fs0 = XQ := ⟨_, rfl⟩
    have e00 : (kernelRun0_B.sl.r_118 c t arg1 harg1 arg9 x0 fs0) = xrow X0 XQ (grid0.coords t) 0 0 := by
      rw [← hX0', ← hXQ']
      delta kernelRun0_B.sl.r_118 xrow k0_pay496 groups
      refine concat_congr ?_ _ _
      repeat' refine congrArg₂ List.cons rfl ?_
      rfl
    have eP0 : (kernelRun0_B.sl.r_232 c t arg1 harg1 arg9 x0 fh0 fs0) = blk (prod X0 XQ (wload0 c t fh0) (grid0.coords t) 0) 0 := by
      delta kernelRun0_B.sl.r_232 k0_pay555 k0_pay554
      refine congrArg (fun P => extractStridedSlice S16x128 ![0, 0] P slices_S32x256_o0_0_S16x128) (prod_of (W := (wload0 c t fh0)) e00 ?_)
      rw [← hX0', ← hXQ']
      delta xrow groups
      refine concat_congr ?_ _ _
      repeat' refine congrArg₂ List.cons rfl ?_
      rfl
    have eP0' : (kernelRun0_B.sl.r_233 c t arg1 harg1 arg9 x0 fh0 fs0) = blk (prod X0 XQ (wload0 c t fh0) (grid0.coords t) 0) 1 := by
      delta kernelRun0_B.sl.r_233 k0_pay556 k0_pay554
      refine congrArg (fun P => extractStridedSlice S16x128 ![16, 128] P slices_S32x256_o16_128_S16x128) (prod_of (W := (wload0 c t fh0)) e00 ?_)
      rw [← hX0', ← hXQ']
      delta xrow groups
      refine concat_congr ?_ _ _
      repeat' refine congrArg₂ List.cons rfl ?_
      rfl
    have e10 : (kernelRun0_B.sl.r_347 c t arg1 harg1 arg9 x0 fs0) = xrow X0 XQ (grid0.coords t) 1 0 := by
      rw [← hX0', ← hXQ']
      delta kernelRun0_B.sl.r_347 xrow k0_pay612 groups
      refine concat_congr ?_ _ _
      repeat' refine congrArg₂ List.cons rfl ?_
      rfl
    have eO0 : (kernelRun0_B.sl.r_469 c t arg1 harg1 arg9 x0 fh0 fs0) = actv X0 XQ (wload0 c t fh0) (wload1 c t fh0) (grid0.coords t) 0 := by
      delta kernelRun0_B.sl.r_469 k0_pay676 k0_pay674
      rw [eP0]
      refine congrArg (fun P => mulf (mulf _ (logistic _)) (extractStridedSlice S16x128 ![0, 0] P slices_S32x256_o0_0_S16x128)) (prod_of (W := (wload1 c t fh0)) e10 ?_)
      rw [← hX0', ← hXQ']
      delta xrow groups
      refine concat_congr ?_ _ _
      repeat' refine congrArg₂ List.cons rfl ?_
      rfl
    have eP1' : (kernelRun0_B.sl.r_467 c t arg1 harg1 arg9 x0 fh0 fs0) = blk (prod X0 XQ (wload1 c t fh0) (grid0.coords t) 1) 1 := by
      delta kernelRun0_B.sl.r_467 k0_pay675 k0_pay674
      refine congrArg (fun P => extractStridedSlice S16x128 ![16, 128] P slices_S32x256_o16_128_S16x128) (prod_of (W := (wload1 c t fh0)) e10 ?_)
      rw [← hX0', ← hXQ']
      delta xrow groups
      refine concat_congr ?_ _ _
      repeat' refine congrArg₂ List.cons rfl ?_
      rfl
    have eO1 : (kernelRun0_B.sl.r_473 c t arg1 harg1 arg9 x0 fh0 fs0) = actv X0 XQ (wload0 c t fh0) (wload1 c t fh0) (grid0.coords t) 1 := by
      delta kernelRun0_B.sl.r_473
      rw [eP0', eP1']; rfl
    have eE0 : (kernelRun0_B.sl.r_470 c t arg1 harg1 arg9 x0 fh0 fs0) = expo (ymax (kernelRun0_B.sl.r_469 c t arg1 harg1 arg9 x0 fh0 fs0)) := by
      delta kernelRun0_B.sl.r_470 kernelRun0_B.sl.r_469 k0_pay677
      rfl
    have eS1 : (kernelRun0_B.sl.r_474 c t arg1 harg1 arg9 x0 fh0 fs0) = cmpf .oge (broadcastTo S16x256 (ymax (kernelRun0_B.sl.r_473 c t arg1 harg1 arg9 x0 fh0 fs0)) broadcasts_S16x1_S16x256)
        (bitcastToFloat .f32 (shli k0_pay683 (broadcast S16x256 23#32))) := by
      delta kernelRun0_B.sl.r_474 kernelRun0_B.sl.r_473 k0_pay684
      rfl
    have eC0 : k0_pay679 (kernelRun0_B.sl.r_469 c t arg1 harg1 arg9 x0 fh0 fs0) (kernelRun0_B.sl.r_470 c t arg1 harg1 arg9 x0 fh0 fs0) = codesOf (actv X0 XQ (wload0 c t fh0) (wload1 c t fh0) (grid0.coords t) 0) (ymax (actv X0 XQ (wload0 c t fh0) (wload1 c t fh0) (grid0.coords t) 0)) := by
      rw [eE0, eO0]; rfl
    have eC1 : k0_pay688 (kernelRun0_B.sl.r_473 c t arg1 harg1 arg9 x0 fh0 fs0) (kernelRun0_B.sl.r_474 c t arg1 harg1 arg9 x0 fh0 fs0) k0_pay685 k0_pay686 = codesOf (actv X0 XQ (wload0 c t fh0) (wload1 c t fh0) (grid0.coords t) 1) (ymax (actv X0 XQ (wload0 c t fh0) (wload1 c t fh0) (grid0.coords t) 1)) := by
      rw [eS1, eO1]; rfl
    have eOld : kernelRun0_B.sl.r_468 c arg10 fs1 = ds1 := (readAt_full arg10.view fs1 _).trans hfs1
    have eA : (kernelRun0_B.sl.r_475 c t arg1 harg1 arg9 arg10 x0 fh0 fs0 fs1) = asRaw X0 XQ (wload0 c t fh0) (wload1 c t fh0) (grid0.coords t) ds1 := by
      have eE0' := eE0
      rw [eO0] at eE0'
      delta kernelRun0_B.sl.r_470 at eE0'
      delta kernelRun0_B.sl.r_475 kernelRun0_B.sl.r_472 kernelRun0_B.sl.r_471 k0_pay678
      rw [eS1, eO1, eOld]
      simp only [eE0']
      rfl
    have eA1 : (kernelRun0_B.sl.r_476 c t arg1 harg1 arg9 arg10 x0 fh0 fs0 fs1) = asNew X0 XQ (wload0 c t fh0) (wload1 c t fh0) (grid0.coords t) ds1 := congrArg (fun z => shapeCast S16x192 z shapeCasts_S16x192_S16x192) eA
    obtain rfl : X0 = x0 := hX0'.symm.trans hf0
    obtain rfl : XQ = ds0 := hXQ'.symm.trans hfs0
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro; exact (read_halves _ _ _ _).trans (congrArg₂ halves (congrArg (fun z => truncf .bf16 z bitsLt_bf16_f32) eO0) (congrArg (fun z => truncf .bf16 z bitsLt_bf16_f32) eO1))
    isplitl [H3]
    · iexists _; isplitr; swap; · iexact H3
      ipureintro; exact hf3
    isplitl [H4]
    · iexists _; isplitr; swap; · iexact H4
      ipureintro; exact hf4
    isplitl [H5]
    · iexists _; isplitr; swap; · iexact H5
      ipureintro; exact (read_halves _ _ _ _).trans (congrArg₂ halves eC0 eC1)
    isplitl [H6]
    · iexists _; isplitr; swap; · iexact H6
      ipureintro; exact hf6
    isplitl [HS0]
    · iexists _; isplitr; swap; · iexact HS0
      ipureintro; exact hfs0
    isplitl [HS1]
    · iexists _; isplitr; swap; · iexact HS1
      ipureintro; exact (read_full _ _ _ _).trans eA1
    isplitl [Hf0_0_1 Hrf0_0_1]
    · iexists ff0_0_1; isplitl [Hf0_0_1]; · iexact Hf0_0_1
      iexact Hrf0_0_1
    isplitl [Hf0_0_2 Hrf0_0_2]
    · iexists ff0_0_2; isplitl [Hf0_0_2]; · iexact Hf0_0_2
      iexact Hrf0_0_2
    isplitl [Hc0_0_3 Hr0_0_3]
    · iexists _; isplitl [Hc0_0_3]; · iexact Hc0_0_3
      iexact Hr0_0_3
    isplitl [Hf0_0_0 Hf0_0_0_dst Hf0_0_0_src Hrf0_0_0]
    · isplitl [Hf0_0_0]; · iexact Hf0_0_0
      iexists _; isplitl [Hf0_0_0_dst]; · iexact Hf0_0_0_dst
      iapply (src0_0_split c fh0 (Ring.sl 4 t.val) (Ring.bk 96 t.val)).2; isplitl [Hf0_0_0_src]; · iexact Hf0_0_0_src
      iexact Hrf0_0_0
    iexists _; iexact HW

end Cert.KernelIdeal.Hand

end
-- ==== Proof.RunC.lean ====
module

public import proofs.«01_k».proof.Proof.Rows

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 5132000 in
/-- The body at the two grid points before the last: what each buffer holds afterwards, as the functions of `Spec`. -/
theorem kernelRun0_C (c : Dev nD) (t : Fin cfg0.N) (arg1 : Memref sig .tc .smem S2x56x192 .f32) (harg1 : arg1.IsWhole) (arg2 : Memref sig .tc .vmem S16x7168 .bf16) (harg2 : arg2.IsWhole) (arg4 : Memref sig .tc .vmem S16x256 .bf16) (harg4 : arg4.IsWhole) (arg5 : Memref sig .tc .vmem S16x7168 .fp8e4m3) (harg5 : arg5.IsWhole) (arg6 : Memref sig .tc .vmem S16x1x56 .f32) (harg6 : arg6.IsWhole) (arg7 : Memref sig .tc .vmem S16x256 .fp8e4m3) (harg7 : arg7.IsWhole) (arg8 : Memref sig .tc .vmem S16x1x192 .f32) (harg8 : arg8.IsWhole) (arg9 : Memref sig .tc .vmem S16x7168 .bf16) (harg9 : arg9.IsWhole) (arg10 : Memref sig .tc .vmem S16x192 .f32) (harg10 : arg10.IsWhole) (hc0 : ¬cond0_0 (grid0.coords t)) (hc1 : ¬cond0_1 (grid0.coords t)) (hc2 : ¬cond0_2 (grid0.coords t))
    (x0 : Vec F S2x56x192 .f32) (x1 : Vec F S16x7168 .bf16) (fh0 : HbBuf0 (F := F) c hbM0_0) :
      ∀ (d2 : Vec F S16x256 .bf16) (d3 : Vec F S16x7168 .fp8e4m3) (d4 : Vec F S16x1x56 .f32) (d5 : Vec F S16x256 .fp8e4m3) (d6 : Vec F S16x1x192 .f32) (ds0 : Vec F S16x7168 .bf16) (ds1 : Vec F S16x192 .f32) (W : Waits sig Unit) (K : PUnit → sProp 𝕄),
        iprop(owns (c : Thread nD τ) arg1 fullShare x0 ∗ owns (c : Thread nD τ) arg2 fullShare x1 ∗ owns (c : Thread nD τ) arg4 fullShare d2 ∗ owns (c : Thread nD τ) arg5 fullShare d3 ∗ owns (c : Thread nD τ) arg6 fullShare d4 ∗ owns (c : Thread nD τ) arg7 fullShare d5 ∗ owns (c : Thread nD τ) arg8 fullShare d6 ∗ owns (c : Thread nD τ) arg9 fullShare ds0 ∗ owns (c : Thread nD τ) arg10 fullShare ds1 ∗ Ring.inflight (flightW0_0 c fh0) (Ring.sl 4 t.val) (Ring.bk 96 t.val) ∗ Ring.slotAt 3 (cellP0_0 c) (slotW0_0 c fh0) (flightW0_0 c fh0) t.val 1 ∗ Ring.slotAt 3 (cellP0_0 c) (slotW0_0 c fh0) (flightW0_0 c fh0) t.val 2 ∗ Ring.free (cellP0_0 c) (slotW0_0 c fh0) (Ring.sl 4 (t.val + 3)) ∗ owes (c : Thread nD τ) 0 W
            ∗ (iprop(owns (c : Thread nD τ) arg1 fullShare x0 ∗ owns (c : Thread nD τ) arg2 fullShare x1 ∗ owns (c : Thread nD τ) arg4 fullShare (actOut x0 ds0 (wload0 c t fh0) (wload1 c t fh0) (grid0.coords t)) ∗ owns (c : Thread nD τ) arg5 fullShare d3 ∗ owns (c : Thread nD τ) arg6 fullShare d4 ∗ owns (c : Thread nD τ) arg7 fullShare (acOut x0 ds0 (wload0 c t fh0) (wload1 c t fh0) (grid0.coords t)) ∗ owns (c : Thread nD τ) arg8 fullShare d6 ∗ owns (c : Thread nD τ) arg9 fullShare ds0 ∗ owns (c : Thread nD τ) arg10 fullShare (asNew x0 ds0 (wload0 c t fh0) (wload1 c t fh0) (grid0.coords t) ds1) ∗ Ring.slotAt 3 (cellP0_0 c) (slotW0_0 c fh0) (flightW0_0 c fh0) t.val 1 ∗ Ring.slotAt 3 (cellP0_0 c) (slotW0_0 c fh0) (flightW0_0 c fh0) t.val 2 ∗ Ring.free (cellP0_0 c) (slotW0_0 c fh0) (Ring.sl 4 (t.val + 3)) ∗ Ring.free (cellP0_0 c) (slotW0_0 c fh0) (Ring.sl 4 t.val) ∗ (∃ W', owes (c : Thread nD τ) 0 W')) -∗ K ⟨⟩))
          ⊢ wp frame (wpE (defs₀ (F := F)) Variants.none c none) Set.univ (cc0_swiglu_fp8 (grid0.coords t) arg1 harg1 arg2 harg2 (Memref.whole main_arg1) (Memref.isWhole_whole _) arg4 harg4 arg5 harg5 arg6 harg6 arg7 harg7 arg8 harg8 arg9 harg9 arg10 harg10 scM0_2 (Memref.isWhole_whole _) cc0_scratch3) K := by
    intro d2 d3 d4 d5 d6 ds0 ds1 W K
    haveI : Fact (¬cond0_0 (grid0.coords t)) := ⟨hc0⟩
    haveI : Fact (¬cond0_1 (grid0.coords t)) := ⟨hc1⟩
    haveI : Fact (¬cond0_2 (grid0.coords t)) := ⟨hc2⟩
    simp only [cc0_swiglu_fp8_eq_skeleton]; unfold cc0_swiglu_fp8_skel
    simp only [k0_part135_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton]
    unfold owns Ring.free Ring.inflight
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%ff0_0_0, Hf0_0_0, Hrf0_0_0⟩, Hro0_0_1, Hro0_0_2, ⟨Hc0_0_3, ⟨%fs0_0_3, Hs0_0_3, Hw0_0_3⟩⟩, HW, Hk⟩
    obtain rfl := harg1.eq_unread hf0; obtain rfl := harg2.eq_unread hf1
    sl_exec (disch := first | sl_exact hc0 | sl_exact hc1 | sl_exact hc2)
    obtain ⟨X0, hX0'⟩ : ∃ X0, arg1.view.read (Elt F) (harg1.unread x0) = X0 := ⟨_, rfl⟩
    obtain ⟨XQ, hXQ'⟩ : ∃ XQ, arg9.view.read (Elt F) fs0 = XQ := ⟨_, rfl⟩
    have e00 : (kernelRun0_C.sl.r_118 c t arg1 harg1 arg9 x0 fs0) = xrow X0 XQ (grid0.coords t) 0 0 := by
      rw [← hX0', ← hXQ']
      delta kernelRun0_C.sl.r_118 xrow k0_pay496 groups
      refine concat_congr ?_ _ _
      repeat' refine congrArg₂ List.cons rfl ?_
      rfl
    have eP0 : (kernelRun0_C.sl.r_232 c t arg1 harg1 arg9 x0 fh0 fs0) = blk (prod X0 XQ (wload0 c t fh0) (grid0.coords t) 0) 0 := by
      delta kernelRun0_C.sl.r_232 k0_pay555 k0_pay554
      refine congrArg (fun P => extractStridedSlice S16x128 ![0, 0] P slices_S32x256_o0_0_S16x128) (prod_of (W := (wload0 c t fh0)) e00 ?_)
      rw [← hX0', ← hXQ']
      delta xrow groups
      refine concat_congr ?_ _ _
      repeat' refine congrArg₂ List.cons rfl ?_
      rfl
    have eP0' : (kernelRun0_C.sl.r_233 c t arg1 harg1 arg9 x0 fh0 fs0) = blk (prod X0 XQ (wload0 c t fh0) (grid0.coords t) 0) 1 := by
      delta kernelRun0_C.sl.r_233 k0_pay556 k0_pay554
      refine congrArg (fun P => extractStridedSlice S16x128 ![16, 128] P slices_S32x256_o16_128_S16x128) (prod_of (W := (wload0 c t fh0)) e00 ?_)
      rw [← hX0', ← hXQ']
      delta xrow groups
      refine concat_congr ?_ _ _
      repeat' refine congrArg₂ List.cons rfl ?_
      rfl
    have e10 : (kernelRun0_C.sl.r_347 c t arg1 harg1 arg9 x0 fs0) = xrow X0 XQ (grid0.coords t) 1 0 := by
      rw [← hX0', ← hXQ']
      delta kernelRun0_C.sl.r_347 xrow k0_pay612 groups
      refine concat_congr ?_ _ _
      repeat' refine congrArg₂ List.cons rfl ?_
      rfl
    have eO0 : (kernelRun0_C.sl.r_469 c t arg1 harg1 arg9 x0 fh0 fs0) = actv X0 XQ (wload0 c t fh0) (wload1 c t fh0) (grid0.coords t) 0 := by
      delta kernelRun0_C.sl.r_469 k0_pay676 k0_pay674
      rw [eP0]
      refine congrArg (fun P => mulf (mulf _ (logistic _)) (extractStridedSlice S16x128 ![0, 0] P slices_S32x256_o0_0_S16x128)) (prod_of (W := (wload1 c t fh0)) e10 ?_)
      rw [← hX0', ← hXQ']
      delta xrow groups
      refine concat_congr ?_ _ _
      repeat' refine congrArg₂ List.cons rfl ?_
      rfl
    have eP1' : (kernelRun0_C.sl.r_467 c t arg1 harg1 arg9 x0 fh0 fs0) = blk (prod X0 XQ (wload1 c t fh0) (grid0.coords t) 1) 1 := by
      delta kernelRun0_C.sl.r_467 k0_pay675 k0_pay674
      refine congrArg (fun P => extractStridedSlice S16x128 ![16, 128] P slices_S32x256_o16_128_S16x128) (prod_of (W := (wload1 c t fh0)) e10 ?_)
      rw [← hX0', ← hXQ']
      delta xrow groups
      refine concat_congr ?_ _ _
      repeat' refine congrArg₂ List.cons rfl ?_
      rfl
    have eO1 : (kernelRun0_C.sl.r_473 c t arg1 harg1 arg9 x0 fh0 fs0) = actv X0 XQ (wload0 c t fh0) (wload1 c t fh0) (grid0.coords t) 1 := by
      delta kernelRun0_C.sl.r_473
      rw [eP0', eP1']; rfl
    have eE0 : (kernelRun0_C.sl.r_470 c t arg1 harg1 arg9 x0 fh0 fs0) = expo (ymax (kernelRun0_C.sl.r_469 c t arg1 harg1 arg9 x0 fh0 fs0)) := by
      delta kernelRun0_C.sl.r_470 kernelRun0_C.sl.r_469 k0_pay677
      rfl
    have eS1 : (kernelRun0_C.sl.r_474 c t arg1 harg1 arg9 x0 fh0 fs0) = cmpf .oge (broadcastTo S16x256 (ymax (kernelRun0_C.sl.r_473 c t arg1 harg1 arg9 x0 fh0 fs0)) broadcasts_S16x1_S16x256)
        (bitcastToFloat .f32 (shli k0_pay683 (broadcast S16x256 23#32))) := by
      delta kernelRun0_C.sl.r_474 kernelRun0_C.sl.r_473 k0_pay684
      rfl
    have eC0 : k0_pay679 (kernelRun0_C.sl.r_469 c t arg1 harg1 arg9 x0 fh0 fs0) (kernelRun0_C.sl.r_470 c t arg1 harg1 arg9 x0 fh0 fs0) = codesOf (actv X0 XQ (wload0 c t fh0) (wload1 c t fh0) (grid0.coords t) 0) (ymax (actv X0 XQ (wload0 c t fh0) (wload1 c t fh0) (grid0.coords t) 0)) := by
      rw [eE0, eO0]; rfl
    have eC1 : k0_pay688 (kernelRun0_C.sl.r_473 c t arg1 harg1 arg9 x0 fh0 fs0) (kernelRun0_C.sl.r_474 c t arg1 harg1 arg9 x0 fh0 fs0) k0_pay685 k0_pay686 = codesOf (actv X0 XQ (wload0 c t fh0) (wload1 c t fh0) (grid0.coords t) 1) (ymax (actv X0 XQ (wload0 c t fh0) (wload1 c t fh0) (grid0.coords t) 1)) := by
      rw [eS1, eO1]; rfl
    have eOld : kernelRun0_C.sl.r_468 c arg10 fs1 = ds1 := (readAt_full arg10.view fs1 _).trans hfs1
    have eA : (kernelRun0_C.sl.r_475 c t arg1 harg1 arg9 arg10 x0 fh0 fs0 fs1) = asRaw X0 XQ (wload0 c t fh0) (wload1 c t fh0) (grid0.coords t) ds1 := by
      have eE0' := eE0
      rw [eO0] at eE0'
      delta kernelRun0_C.sl.r_470 at eE0'
      delta kernelRun0_C.sl.r_475 kernelRun0_C.sl.r_472 kernelRun0_C.sl.r_471 k0_pay678
      rw [eS1, eO1, eOld]
      simp only [eE0']
      rfl
    have eA1 : (kernelRun0_C.sl.r_476 c t arg1 harg1 arg9 arg10 x0 fh0 fs0 fs1) = asNew X0 XQ (wload0 c t fh0) (wload1 c t fh0) (grid0.coords t) ds1 := congrArg (fun z => shapeCast S16x192 z shapeCasts_S16x192_S16x192) eA
    obtain rfl : X0 = x0 := hX0'.symm.trans hf0
    obtain rfl : XQ = ds0 := hXQ'.symm.trans hfs0
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro; exact (read_halves _ _ _ _).trans (congrArg₂ halves (congrArg (fun z => truncf .bf16 z bitsLt_bf16_f32) eO0) (congrArg (fun z => truncf .bf16 z bitsLt_bf16_f32) eO1))
    isplitl [H3]
    · iexists _; isplitr; swap; · iexact H3
      ipureintro; exact hf3
    isplitl [H4]
    · iexists _; isplitr; swap; · iexact H4
      ipureintro; exact hf4
    isplitl [H5]
    · iexists _; isplitr; swap; · iexact H5
      ipureintro; exact (read_halves _ _ _ _).trans (congrArg₂ halves eC0 eC1)
    isplitl [H6]
    · iexists _; isplitr; swap; · iexact H6
      ipureintro; exact hf6
    isplitl [HS0]
    · iexists _; isplitr; swap; · iexact HS0
      ipureintro; exact hfs0
    isplitl [HS1]
    · iexists _; isplitr; swap; · iexact HS1
      ipureintro; exact (read_full _ _ _ _).trans eA1
    isplitl [Hro0_0_1]; · iexact Hro0_0_1
    isplitl [Hro0_0_2]; · iexact Hro0_0_2
    isplitl [Hc0_0_3 Hs0_0_3 Hw0_0_3]
    · isplitl [Hc0_0_3]; · iexact Hc0_0_3
      iexists _; isplitl [Hs0_0_3]; · iexact Hs0_0_3
      iexact Hw0_0_3
    isplitl [Hf0_0_0 Hf0_0_0_dst Hf0_0_0_src Hrf0_0_0]
    · isplitl [Hf0_0_0]; · iexact Hf0_0_0
      iexists _; isplitl [Hf0_0_0_dst]; · iexact Hf0_0_0_dst
      iapply (src0_0_split c fh0 (Ring.sl 4 t.val) (Ring.bk 96 t.val)).2; isplitl [Hf0_0_0_src]; · iexact Hf0_0_0_src
      iexact Hrf0_0_0
    iexists _; iexact HW

end Cert.KernelIdeal.Hand

end
-- ==== Proof.RunD.lean ====
module

public import proofs.«01_k».proof.Proof.Rows

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 5140000 in
/-- The body at the last grid point: what each buffer holds afterwards, as the functions of `Spec`. -/
theorem kernelRun0_D (c : Dev nD) (t : Fin cfg0.N) (arg1 : Memref sig .tc .smem S2x56x192 .f32) (harg1 : arg1.IsWhole) (arg2 : Memref sig .tc .vmem S16x7168 .bf16) (harg2 : arg2.IsWhole) (arg4 : Memref sig .tc .vmem S16x256 .bf16) (harg4 : arg4.IsWhole) (arg5 : Memref sig .tc .vmem S16x7168 .fp8e4m3) (harg5 : arg5.IsWhole) (arg6 : Memref sig .tc .vmem S16x1x56 .f32) (harg6 : arg6.IsWhole) (arg7 : Memref sig .tc .vmem S16x256 .fp8e4m3) (harg7 : arg7.IsWhole) (arg8 : Memref sig .tc .vmem S16x1x192 .f32) (harg8 : arg8.IsWhole) (arg9 : Memref sig .tc .vmem S16x7168 .bf16) (harg9 : arg9.IsWhole) (arg10 : Memref sig .tc .vmem S16x192 .f32) (harg10 : arg10.IsWhole) (hc0 : ¬cond0_0 (grid0.coords t)) (hc1 : ¬cond0_1 (grid0.coords t)) (hc2 : cond0_2 (grid0.coords t))
    (x0 : Vec F S2x56x192 .f32) (x1 : Vec F S16x7168 .bf16) (fh0 : HbBuf0 (F := F) c hbM0_0) :
      ∀ (d2 : Vec F S16x256 .bf16) (d3 : Vec F S16x7168 .fp8e4m3) (d4 : Vec F S16x1x56 .f32) (d5 : Vec F S16x256 .fp8e4m3) (d6 : Vec F S16x1x192 .f32) (ds0 : Vec F S16x7168 .bf16) (ds1 : Vec F S16x192 .f32) (W : Waits sig Unit) (K : PUnit → sProp 𝕄),
        iprop(owns (c : Thread nD τ) arg1 fullShare x0 ∗ owns (c : Thread nD τ) arg2 fullShare x1 ∗ owns (c : Thread nD τ) arg4 fullShare d2 ∗ owns (c : Thread nD τ) arg5 fullShare d3 ∗ owns (c : Thread nD τ) arg6 fullShare d4 ∗ owns (c : Thread nD τ) arg7 fullShare d5 ∗ owns (c : Thread nD τ) arg8 fullShare d6 ∗ owns (c : Thread nD τ) arg9 fullShare ds0 ∗ owns (c : Thread nD τ) arg10 fullShare ds1 ∗ Ring.inflight (flightW0_0 c fh0) (Ring.sl 4 t.val) (Ring.bk 96 t.val) ∗ Ring.slotAt 3 (cellP0_0 c) (slotW0_0 c fh0) (flightW0_0 c fh0) t.val 1 ∗ Ring.slotAt 3 (cellP0_0 c) (slotW0_0 c fh0) (flightW0_0 c fh0) t.val 2 ∗ Ring.free (cellP0_0 c) (slotW0_0 c fh0) (Ring.sl 4 (t.val + 3)) ∗ owes (c : Thread nD τ) 0 W
            ∗ (iprop(owns (c : Thread nD τ) arg1 fullShare x0 ∗ owns (c : Thread nD τ) arg2 fullShare x1 ∗ owns (c : Thread nD τ) arg4 fullShare (actOut x0 ds0 (wload0 c t fh0) (wload1 c t fh0) (grid0.coords t)) ∗ owns (c : Thread nD τ) arg5 fullShare d3 ∗ owns (c : Thread nD τ) arg6 fullShare d4 ∗ owns (c : Thread nD τ) arg7 fullShare (acOut x0 ds0 (wload0 c t fh0) (wload1 c t fh0) (grid0.coords t)) ∗ owns (c : Thread nD τ) arg8 fullShare (asOut x0 ds0 (wload0 c t fh0) (wload1 c t fh0) (grid0.coords t) ds1) ∗ owns (c : Thread nD τ) arg9 fullShare ds0 ∗ owns (c : Thread nD τ) arg10 fullShare (asNew x0 ds0 (wload0 c t fh0) (wload1 c t fh0) (grid0.coords t) ds1) ∗ Ring.slotAt 3 (cellP0_0 c) (slotW0_0 c fh0) (flightW0_0 c fh0) t.val 1 ∗ Ring.slotAt 3 (cellP0_0 c) (slotW0_0 c fh0) (flightW0_0 c fh0) t.val 2 ∗ Ring.free (cellP0_0 c) (slotW0_0 c fh0) (Ring.sl 4 (t.val + 3)) ∗ Ring.free (cellP0_0 c) (slotW0_0 c fh0) (Ring.sl 4 t.val) ∗ (∃ W', owes (c : Thread nD τ) 0 W')) -∗ K ⟨⟩))
          ⊢ wp frame (wpE (defs₀ (F := F)) Variants.none c none) Set.univ (cc0_swiglu_fp8 (grid0.coords t) arg1 harg1 arg2 harg2 (Memref.whole main_arg1) (Memref.isWhole_whole _) arg4 harg4 arg5 harg5 arg6 harg6 arg7 harg7 arg8 harg8 arg9 harg9 arg10 harg10 scM0_2 (Memref.isWhole_whole _) cc0_scratch3) K := by
    intro d2 d3 d4 d5 d6 ds0 ds1 W K
    haveI : Fact (¬cond0_0 (grid0.coords t)) := ⟨hc0⟩
    haveI : Fact (¬cond0_1 (grid0.coords t)) := ⟨hc1⟩
    haveI : Fact (cond0_2 (grid0.coords t)) := ⟨hc2⟩
    simp only [cc0_swiglu_fp8_eq_skeleton]; unfold cc0_swiglu_fp8_skel
    simp only [k0_part135_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton]
    unfold owns Ring.free Ring.inflight
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%ff0_0_0, Hf0_0_0, Hrf0_0_0⟩, Hro0_0_1, Hro0_0_2, ⟨Hc0_0_3, ⟨%fs0_0_3, Hs0_0_3, Hw0_0_3⟩⟩, HW, Hk⟩
    obtain rfl := harg1.eq_unread hf0; obtain rfl := harg2.eq_unread hf1
    sl_exec (disch := first | sl_exact hc0 | sl_exact hc1 | sl_exact hc2)
    obtain ⟨X0, hX0'⟩ : ∃ X0, arg1.view.read (Elt F) (harg1.unread x0) = X0 := ⟨_, rfl⟩
    obtain ⟨XQ, hXQ'⟩ : ∃ XQ, arg9.view.read (Elt F) fs0 = XQ := ⟨_, rfl⟩
    have e00 : (kernelRun0_D.sl.r_118 c t arg1 harg1 arg9 x0 fs0) = xrow X0 XQ (grid0.coords t) 0 0 := by
      rw [← hX0', ← hXQ']
      delta kernelRun0_D.sl.r_118 xrow k0_pay496 groups
      refine concat_congr ?_ _ _
      repeat' refine congrArg₂ List.cons rfl ?_
      rfl
    have eP0 : (kernelRun0_D.sl.r_232 c t arg1 harg1 arg9 x0 fh0 fs0) = blk (prod X0 XQ (wload0 c t fh0) (grid0.coords t) 0) 0 := by
      delta kernelRun0_D.sl.r_232 k0_pay555 k0_pay554
      refine congrArg (fun P => extractStridedSlice S16x128 ![0, 0] P slices_S32x256_o0_0_S16x128) (prod_of (W := (wload0 c t fh0)) e00 ?_)
      rw [← hX0', ← hXQ']
      delta xrow groups
      refine concat_congr ?_ _ _
      repeat' refine congrArg₂ List.cons rfl ?_
      rfl
    have eP0' : (kernelRun0_D.sl.r_233 c t arg1 harg1 arg9 x0 fh0 fs0) = blk (prod X0 XQ (wload0 c t fh0) (grid0.coords t) 0) 1 := by
      delta kernelRun0_D.sl.r_233 k0_pay556 k0_pay554
      refine congrArg (fun P => extractStridedSlice S16x128 ![16, 128] P slices_S32x256_o16_128_S16x128) (prod_of (W := (wload0 c t fh0)) e00 ?_)
      rw [← hX0', ← hXQ']
      delta xrow groups
      refine concat_congr ?_ _ _
      repeat' refine congrArg₂ List.cons rfl ?_
      rfl
    have e10 : (kernelRun0_D.sl.r_347 c t arg1 harg1 arg9 x0 fs0) = xrow X0 XQ (grid0.coords t) 1 0 := by
      rw [← hX0', ← hXQ']
      delta kernelRun0_D.sl.r_347 xrow k0_pay612 groups
      refine concat_congr ?_ _ _
      repeat' refine congrArg₂ List.cons rfl ?_
      rfl
    have eO0 : (kernelRun0_D.sl.r_469 c t arg1 harg1 arg9 x0 fh0 fs0) = actv X0 XQ (wload0 c t fh0) (wload1 c t fh0) (grid0.coords t) 0 := by
      delta kernelRun0_D.sl.r_469 k0_pay676 k0_pay674
      rw [eP0]
      refine congrArg (fun P => mulf (mulf _ (logistic _)) (extractStridedSlice S16x128 ![0, 0] P slices_S32x256_o0_0_S16x128)) (prod_of (W := (wload1 c t fh0)) e10 ?_)
      rw [← hX0', ← hXQ']
      delta xrow groups
      refine concat_congr ?_ _ _
      repeat' refine congrArg₂ List.cons rfl ?_
      rfl
    have eP1' : (kernelRun0_D.sl.r_467 c t arg1 harg1 arg9 x0 fh0 fs0) = blk (prod X0 XQ (wload1 c t fh0) (grid0.coords t) 1) 1 := by
      delta kernelRun0_D.sl.r_467 k0_pay675 k0_pay674
      refine congrArg (fun P => extractStridedSlice S16x128 ![16, 128] P slices_S32x256_o16_128_S16x128) (prod_of (W := (wload1 c t fh0)) e10 ?_)
      rw [← hX0', ← hXQ']
      delta xrow groups
      refine concat_congr ?_ _ _
      repeat' refine congrArg₂ List.cons rfl ?_
      rfl
    have eO1 : (kernelRun0_D.sl.r_473 c t arg1 harg1 arg9 x0 fh0 fs0) = actv X0 XQ (wload0 c t fh0) (wload1 c t fh0) (grid0.coords t) 1 := by
      delta kernelRun0_D.sl.r_473
      rw [eP0', eP1']; rfl
    have eE0 : (kernelRun0_D.sl.r_470 c t arg1 harg1 arg9 x0 fh0 fs0) = expo (ymax (kernelRun0_D.sl.r_469 c t arg1 harg1 arg9 x0 fh0 fs0)) := by
      delta kernelRun0_D.sl.r_470 kernelRun0_D.sl.r_469 k0_pay677
      rfl
    have eS1 : (kernelRun0_D.sl.r_474 c t arg1 harg1 arg9 x0 fh0 fs0) = cmpf .oge (broadcastTo S16x256 (ymax (kernelRun0_D.sl.r_473 c t arg1 harg1 arg9 x0 fh0 fs0)) broadcasts_S16x1_S16x256)
        (bitcastToFloat .f32 (shli k0_pay683 (broadcast S16x256 23#32))) := by
      delta kernelRun0_D.sl.r_474 kernelRun0_D.sl.r_473 k0_pay684
      rfl
    have eC0 : k0_pay679 (kernelRun0_D.sl.r_469 c t arg1 harg1 arg9 x0 fh0 fs0) (kernelRun0_D.sl.r_470 c t arg1 harg1 arg9 x0 fh0 fs0) = codesOf (actv X0 XQ (wload0 c t fh0) (wload1 c t fh0) (grid0.coords t) 0) (ymax (actv X0 XQ (wload0 c t fh0) (wload1 c t fh0) (grid0.coords t) 0)) := by
      rw [eE0, eO0]; rfl
    have eC1 : k0_pay688 (kernelRun0_D.sl.r_473 c t arg1 harg1 arg9 x0 fh0 fs0) (kernelRun0_D.sl.r_474 c t arg1 harg1 arg9 x0 fh0 fs0) k0_pay685 k0_pay686 = codesOf (actv X0 XQ (wload0 c t fh0) (wload1 c t fh0) (grid0.coords t) 1) (ymax (actv X0 XQ (wload0 c t fh0) (wload1 c t fh0) (grid0.coords t) 1)) := by
      rw [eS1, eO1]; rfl
    have eOld : kernelRun0_D.sl.r_468 c arg10 fs1 = ds1 := (readAt_full arg10.view fs1 _).trans hfs1
    have eA : (kernelRun0_D.sl.r_475 c t arg1 harg1 arg9 arg10 x0 fh0 fs0 fs1) = asRaw X0 XQ (wload0 c t fh0) (wload1 c t fh0) (grid0.coords t) ds1 := by
      have eE0' := eE0
      rw [eO0] at eE0'
      delta kernelRun0_D.sl.r_470 at eE0'
      delta kernelRun0_D.sl.r_475 kernelRun0_D.sl.r_472 kernelRun0_D.sl.r_471 k0_pay678
      rw [eS1, eO1, eOld]
      simp only [eE0']
      rfl
    have eA1 : (kernelRun0_D.sl.r_476 c t arg1 harg1 arg9 arg10 x0 fh0 fs0 fs1) = asNew X0 XQ (wload0 c t fh0) (wload1 c t fh0) (grid0.coords t) ds1 := congrArg (fun z => shapeCast S16x192 z shapeCasts_S16x192_S16x192) eA
    obtain rfl : X0 = x0 := hX0'.symm.trans hf0
    obtain rfl : XQ = ds0 := hXQ'.symm.trans hfs0
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro; exact (read_halves _ _ _ _).trans (congrArg₂ halves (congrArg (fun z => truncf .bf16 z bitsLt_bf16_f32) eO0) (congrArg (fun z => truncf .bf16 z bitsLt_bf16_f32) eO1))
    isplitl [H3]
    · iexists _; isplitr; swap; · iexact H3
      ipureintro; exact hf3
    isplitl [H4]
    · iexists _; isplitr; swap; · iexact H4
      ipureintro; exact hf4
    isplitl [H5]
    · iexists _; isplitr; swap; · iexact H5
      ipureintro; exact (read_halves _ _ _ _).trans (congrArg₂ halves eC0 eC1)
    isplitl [H6]
    · iexists _; isplitr; swap; · iexact H6
      ipureintro; exact (read_full _ _ _ _).trans (congrArg k0_pay1 eA)
    isplitl [HS0]
    · iexists _; isplitr; swap; · iexact HS0
      ipureintro; exact hfs0
    isplitl [HS1]
    · iexists _; isplitr; swap; · iexact HS1
      ipureintro; exact (read_full _ _ _ _).trans eA1
    isplitl [Hro0_0_1]; · iexact Hro0_0_1
    isplitl [Hro0_0_2]; · iexact Hro0_0_2
    isplitl [Hc0_0_3 Hs0_0_3 Hw0_0_3]
    · isplitl [Hc0_0_3]; · iexact Hc0_0_3
      iexists _; isplitl [Hs0_0_3]; · iexact Hs0_0_3
      iexact Hw0_0_3
    isplitl [Hf0_0_0 Hf0_0_0_dst Hf0_0_0_src Hrf0_0_0]
    · isplitl [Hf0_0_0]; · iexact Hf0_0_0
      iexists _; isplitl [Hf0_0_0_dst]; · iexact Hf0_0_0_dst
      iapply (src0_0_split c fh0 (Ring.sl 4 t.val) (Ring.bk 96 t.val)).2; isplitl [Hf0_0_0_src]; · iexact Hf0_0_0_src
      iexact Hrf0_0_0
    iexists _; iexact HW

end Cert.KernelIdeal.Hand

end
-- ==== Proof.Frame.lean ====
module

public import proofs.«01_k».proof.Proof.RunA
public import proofs.«01_k».proof.Proof.RunB
public import proofs.«01_k».proof.Proof.RunC
public import proofs.«01_k».proof.Proof.RunD
public import Idealize.ShloMosaic.Lib.Pipeline.DatRel
public import Idealize.ShloMosaic.Lib.Pipeline.Value
public import Idealize.ShloMosaic.Lib.Claim

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## What the run leaves, point by point -/

/-- The first grid point. -/
def t0 : Fin cfg0.N := ⟨0, by rw [show cfg0.N = 96 from N_0]; decide⟩

/-- The decoded input, which the first point computes and every later one reads. -/
def xqM (c : Dev nD) : Vec F S16x7168 .bf16 := xqOut (iblk m c 1 t0)

/-- The activation of half tile `b` at point `t`. -/
def actM (c : Dev nD) (t : Fin cfg0.N) (b : Fin 2) : FVec F S16x128 .f32 :=
  actv (iblk m c 0 t) (xqM m c) (wload0 c t (V m c main_arg1)) (wload1 c t (V m c main_arg1)) (grid0.coords t) b

/-- The scale of half tile `b` at point `t`, spread over the row of activation scales. -/
def scaleRow (c : Dev nD) (t : Fin cfg0.N) (b : Fin 2) : FVec F S16x192 .f32 :=
  broadcastTo S16x192 (shapeCast S16x1 (scaleOf (ymax (actM m c t b))) shapeCasts_S16x1_S16x1) broadcasts_S16x1_S16x192

/-- The row of activation scales before point `k`: the lanes of the earlier points hold their scales. -/
def ScrAt (c : Dev nD) (k : ℕ) (d : Vec F S16x192 .f32) : Prop :=
  ∀ (u : Fin cfg0.N) (b : Fin 2) (p : S16x192.Idx), u.val < k → (p 1).val = 2 * u.val + b.val → d p = scaleRow m c u b p

/-- Before the first point nothing is asked of the row. -/
theorem ScrAt_zero (c : Dev nD) (d : Vec F S16x192 .f32) : ScrAt m c 0 d := fun _ _ _ h => absurd h (Nat.not_lt_zero _)

/-- A point's one coordinate is its number. -/
theorem coord_val : ∀ t : Fin cfg0.N, ((grid0.coords t) 0).val = t.val := by decide +kernel

/-- One more column, lane by lane. -/
theorem asPut_apply (i : grid0.Coords) (b : Fin 2) (s : FVec F S16x1 .f32) (old : FVec F S16x192 .f32) (p : S16x192.Idx) (hi : (i 0).val < 96) :
    asPut i (BitVec.ofNat 32 b.val) s old p
      = if (p 1).val = 2 * (i 0).val + b.val then
          broadcastTo S16x192 (shapeCast S16x1 s shapeCasts_S16x1_S16x1) broadcasts_S16x1_S16x192 p
        else old p := by
  have hp : (p 1).val < 192 := (p 1).isLt
  have hb := b.isLt
  have hw : (BitVec.ofNat 32 (0 * 192 + (p 1).val) == BitVec.ofNat 32 (i 0).val * 2#32 + BitVec.ofNat 32 b.val) = decide ((p 1).val = 2 * (i 0).val + b.val) := by
    rw [Bool.eq_iff_iff, beq_iff_eq, decide_eq_true_iff, ← BitVec.toNat_inj]
    simp only [BitVec.toNat_ofNat, BitVec.toNat_add, BitVec.toNat_mul]
    omega
  show (if BitVec.ofBool (BitVec.ofNat 32 (0 * 192 + (p 1).val) == BitVec.ofNat 32 (i 0).val * 2#32 + BitVec.ofNat 32 b.val) = 1#1 then _ else _) = _
  rw [hw]
  by_cases h : (p 1).val = 2 * (i 0).val + b.val
  · rw [if_pos h, if_pos (by rw [decide_eq_true h]; rfl)]
  · rw [if_neg h, if_neg (by rw [decide_eq_false h]; decide)]

/-- A point's step on the row of activation scales. -/
theorem ScrAt_step (c : Dev nD) (t : Fin cfg0.N) (old : Vec F S16x192 .f32) (h : ScrAt m c t.val old) :
    ScrAt m c (t.val + 1) (asRaw (iblk m c 0 t) (xqM m c) (wload0 c t (V m c main_arg1)) (wload1 c t (V m c main_arg1)) (grid0.coords t) old) := by
  intro u b p hu hp
  have hc := coord_val t
  have hi : ((grid0.coords t) 0).val < 96 := by rw [hc]; exact lt_of_lt_of_eq t.isLt (show cfg0.N = 96 from N_0)
  have e1 := asPut_apply (F := F) (grid0.coords t) 1 (scaleOf (ymax (actM m c t 1)))
    (asPut (grid0.coords t) (BitVec.ofNat 32 (0 : Fin 2).val) (scaleOf (ymax (actM m c t 0))) old) p hi
  have e0 := asPut_apply (F := F) (grid0.coords t) 0 (scaleOf (ymax (actM m c t 0))) old p hi
  refine Eq.trans (show _ = asPut (grid0.coords t) (BitVec.ofNat 32 (1 : Fin 2).val) (scaleOf (ymax (actM m c t 1)))
    (asPut (grid0.coords t) (BitVec.ofNat 32 (0 : Fin 2).val) (scaleOf (ymax (actM m c t 0))) old) p from rfl) ?_
  rw [e1, e0, hc]
  by_cases hut : u = t
  · subst hut
    fin_cases b
    · rw [if_neg (by rw [hp]; simp), if_pos (by rw [hp]; rfl)]; rfl
    · rw [if_pos (by rw [hp]; rfl)]; rfl
  · have hlt : u.val < t.val := by
      have : u.val ≠ t.val := fun e => hut (Fin.ext e)
      omega
    have hb := b.isLt
    rw [if_neg (by rw [hp]; simp; omega), if_neg (by rw [hp]; simp; omega)]
    exact h u b p hlt hp

/-- One point puts its two scales into the row and keeps the earlier ones. -/
theorem ScrAt_step' (c : Dev nD) (t : Fin cfg0.N) (old : Vec F S16x192 .f32) (h : ScrAt m c t.val old) :
    ScrAt m c (t.val + 1) (asNew (iblk m c 0 t) (xqM m c) (wload0 c t (V m c main_arg1)) (wload1 c t (V m c main_arg1)) (grid0.coords t) old) := by
  have e : asNew (iblk m c 0 t) (xqM m c) (wload0 c t (V m c main_arg1)) (wload1 c t (V m c main_arg1)) (grid0.coords t) old
      = asRaw (iblk m c 0 t) (xqM m c) (wload0 c t (V m c main_arg1)) (wload1 c t (V m c main_arg1)) (grid0.coords t) old := by
    unfold asNew; exact shapeCast_self _ _
  rw [e]; exact ScrAt_step m c t old h

/-! ## The pipeline's proof data -/

/-- The region invariant before point `k`: the decoded input in its scratch from the second point on, the row of activation scales as
    collected so far, the generator register at some state, and the ring before point `k`. -/
def PhiR (c : Dev nD) (k : ℕ) : sProp 𝕄 := iprop((∃ d, ⌜0 < k → d = xqM m c⌝ ∗ owns (c : Thread nD τ) scM0_0 fullShare d) ∗ (∃ d, ⌜ScrAt m c k d⌝ ∗ owns (c : Thread nD τ) scM0_1 fullShare d) ∗ (∃ r, prngReg c r) ∗ ringAt0_0 c (V m c main_arg1) k)

/-- What the body leaves in each output window at point `t`. -/
def Rl (c : Dev nD) : (w : Fin cfg0.W) → Fin cfg0.N → ((cfg0.win w).block.Idx → Elt F (cfg0.win w).elt) → Prop
  | ⟨2, _⟩, t, X => X = actOut (iblk m c 0 t) (xqM m c) (wload0 c t (V m c main_arg1)) (wload1 c t (V m c main_arg1)) (grid0.coords t)
  | ⟨3, _⟩, _, X => X = xcOut (iblk m c 1 t0)
  | ⟨4, _⟩, _, X => X = xsOut (iblk m c 1 t0)
  | ⟨5, _⟩, t, X => X = acOut (iblk m c 0 t) (xqM m c) (wload0 c t (V m c main_arg1)) (wload1 c t (V m c main_arg1)) (grid0.coords t)
  | ⟨6, _⟩, t, X => t.val = 95 → ∃ Z, ScrAt m c 96 Z ∧ X = k0_pay1 Z
  | ⟨0, _⟩, _, _ => True
  | ⟨1, _⟩, _, _ => True

/-- The output windows, each held to `Rl`. -/
def forgets0 : Fin 7 → Bool := fun w => w.val == 2 || w.val == 3 || w.val == 4 || w.val == 5 || w.val == 6

/-- The proof data of the one pipeline on core `c`: the arrays as the region finds them, each input at its block after every point,
    the outputs stated by `Rl` instead. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ t := PhiR m c t.val
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiR_castSucc (c : Dev nD) (t : Fin cfg0.N) : (dats m 0 c).Φ t.castSucc = PhiR m c t.val := by
  dsimp only [dats]; simp only [Fin.coe_castSucc]
/-- The invariant at a point's end (the proof data at `t.succ`), restated at `t.val + 1`. -/
theorem PhiR_succ (c : Dev nD) (t : Fin cfg0.N) : (dats m 0 c).Φ t.succ = PhiR m c (t.val + 1) := by
  dsimp only [dats]; simp only [Fin.val_succ]

/-- What the body leaves, window by window (the proof data's `match` reduced by `dsimp`). -/
theorem after0_0 (c : Dev nD) (t : Fin cfg0.N) : (dats m 0 c).after 0 t = iblk m c 0 t := by dsimp only [dats]
/-- The input window keeps its block. -/
theorem after0_1 (c : Dev nD) (t : Fin cfg0.N) : (dats m 0 c).after 1 t = iblk m c 1 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- The body finds the input window at its block. -/
theorem before0_1 (c : Dev nD) (t : Fin cfg0.N) (d) : (dats m 0 c).before 1 t d = iblk m c 1 t :=
  before0_1_of m (dats m 0 c) (A_eq m c 1) (after0_1 m c) t d

/-- The relational data: the exact data, with the outputs held to `Rl`. -/
def rdats (c : Dev nD) : Pipeline.RDat τ (Elt F) Unit ℕ (Pipeline.UD sig nD τ) ℕ cfg0 c := (dats m 0 c).toRRel forgets0 (Rl m c)

/-- Between two points a window that is not written back keeps what the body left there. -/
theorem found (c : Dev nD) (w : Fin cfg0.W) (hw : forgets0 w = true) (hfe : ∀ t, (cfg0.win w).fetch t = false)
    (hfl : ∀ t : Fin cfg0.N, (cfg0.win w).flush t = true → t.val % 96 = 95) (t : Fin cfg0.N) (ht : t.val ≠ 0)
    (X : (cfg0.win w).block.Idx → Elt F (cfg0.win w).elt) (h : (rdats m c).Finds w t X) :
    Rl m c w ⟨t.val - 1, Nat.lt_of_le_of_lt (Nat.sub_le _ _) t.isLt⟩ X := by
  have hN : t.val < 96 := lt_of_lt_of_eq t.isLt (show cfg0.N = 96 from N_0)
  rcases ((rdats m c).finds_of_pos (hfe t) ht X).mp h with h | h
  · have := hfl _ h
    simp only at this
    omega
  · exact (dats m 0 c).toRRel_leaves hw h

/-- After the first point the window of the input's codes still holds them. -/
theorem found3 (c : Dev nD) (t : Fin cfg0.N) (ht : t.val ≠ 0) (X) (h : (rdats m c).Finds 3 t X) : X = xcOut (iblk m c 1 t0) :=
  found m c 3 rfl (fun _ => rfl) (fun t h => (flush0_3 t).mp h) t ht X h
/-- After the first point the window of the input's scales still holds them. -/
theorem found4 (c : Dev nD) (t : Fin cfg0.N) (ht : t.val ≠ 0) (X) (h : (rdats m c).Finds 4 t X) : X = xsOut (iblk m c 1 t0) :=
  found m c 4 rfl (fun _ => rfl) (fun t h => (flush0_4 t).mp h) t ht X h

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ Y, ⌜(rdats m c).Finds 2 t Y⌝ ∗ owns (c : Thread nD τ) (ms0_2 t) fullShare Y)
    ∗ (∃ Y, ⌜(rdats m c).Finds 3 t Y⌝ ∗ owns (c : Thread nD τ) (ms0_3 t) fullShare Y)
    ∗ (∃ Y, ⌜(rdats m c).Finds 4 t Y⌝ ∗ owns (c : Thread nD τ) (ms0_4 t) fullShare Y)
    ∗ (∃ Y, ⌜(rdats m c).Finds 5 t Y⌝ ∗ owns (c : Thread nD τ) (ms0_5 t) fullShare Y)
    ∗ (∃ Y, ⌜(rdats m c).Finds 6 t Y⌝ ∗ owns (c : Thread nD τ) (ms0_6 t) fullShare Y))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (∃ X, ⌜Rl m c 2 t X⌝ ∗ owns (c : Thread nD τ) (ms0_2 t) fullShare X)
    ∗ (∃ X, ⌜Rl m c 3 t X⌝ ∗ owns (c : Thread nD τ) (ms0_3 t) fullShare X)
    ∗ (∃ X, ⌜Rl m c 4 t X⌝ ∗ owns (c : Thread nD τ) (ms0_4 t) fullShare X)
    ∗ (∃ X, ⌜Rl m c 5 t X⌝ ∗ owns (c : Thread nD τ) (ms0_5 t) fullShare X)
    ∗ (∃ X, ⌜Rl m c 6 t X⌝ ∗ owns (c : Thread nD τ) (ms0_6 t) fullShare X))

set_option maxHeartbeats 3200000 in
/-- The body at any point: the case the point is in, its run, the ring taken apart and put together again. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [PhiR_castSucc m c t, PhiR_succ m c t]
  unfold Dat.owesAt Pipeline.owesWithin
  rw [show (dats m 0 c).owed t.castSucc = 0 from rfl, show (dats m 0 c).owed t.succ = 0 from rfl]
  unfold PhiR ringAt0_0
  have hgN : grid0.N = 96 := N_0
  have hN : t.val < 96 := lt_of_lt_of_eq t.isLt (show cfg0.N = 96 from N_0)
  by_cases h0 : t.val % 96 = 0
  · by_cases h1 : t.val < 93
    · by_cases h2 : t.val % 96 = 95
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        have hr0 := rstep0_0_A t ((hcond0_0 t).mpr h0) ((hcond0_1 t).mpr h1) (fun h => h2 ((hcond0_2 t).mp h))
        obtain ⟨hK00, hK10⟩ := hr0
        rw [if_pos hK00, if_neg (show ¬t.val + 1 = 0 by omega)]
        rw [Ring.At₀_eq4' _ _ _ t.val hK00 (by decide : 4 ≤ 96), Ring.At4_one' _ _ _ _ t.val hK00 (by decide : 4 ≤ 96)]
        iintro ⟨⟨⟨%e0, %he0, HS0⟩, ⟨%e1, %he1, HS1⟩, Hg, ⟨-, Hfr0_0_0, Hfr0_0_1, Hfr0_0_2, Hfr0_0_3⟩⟩, ⟨%W, -, HW⟩, ⟨%d0, H0⟩, ⟨%d1, H1⟩, ⟨%d2, %hd2, H2⟩, ⟨%d3, %hd3, H3⟩, ⟨%d4, %hd4, H4⟩, ⟨%d5, %hd5, H5⟩, ⟨%d6, %hd6, H6⟩⟩
        obtain rfl : t = t0 := Fin.ext (by rw [hK00]; rfl)
        have hS := ScrAt_step' m c t0 e1 he1
        iapply ((kernelRun0_A c t0 _ _ _ _ _ _ _ _ _ _ _ _ _ _ _ _ _ _ ((hcond0_0 t0).mpr h0) ((hcond0_1 t0).mpr h1) (fun h => h2 ((hcond0_2 t0).mp h)) (iblk m c 0 t0) (iblk m c 1 t0) (V m c main_arg1)) d2 d3 d4 d5 d6 e0 e1 W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [Hfr0_0_0]; · iexact Hfr0_0_0
        isplitl [Hfr0_0_1]; · iexact Hfr0_0_1
        isplitl [Hfr0_0_2]; · iexact Hfr0_0_2
        isplitl [Hfr0_0_3]; · iexact Hfr0_0_3
        isplitl [HW]; · iexact HW
        iintro ⟨H0, H1, H2, H3, H4, H5, H6, HS0, HS1, Hfa0_0', Hfb0_0', Hfc0_0', Hfd0_0', ⟨%W', HW'⟩⟩
        isplitl [HS0 HS1 Hg Hfa0_0' Hfb0_0' Hfc0_0' Hfd0_0']
        · isplitl [HS0]
          · iexists _; isplitr; swap; · iexact HS0
            ipureintro; exact fun _ => rfl
          isplitl [HS1]
          · iexists _; isplitr; swap; · iexact HS1
            ipureintro; exact hS
          isplitl [Hg]; · iexact Hg
          iapply (Ring.with_homes (Idealize.SL.BI.Entails.refl _))
          isplitl [Hfa0_0']; · iexact Hfa0_0'
          isplitl [Hfb0_0']; · iexact Hfb0_0'
          isplitl [Hfc0_0']; · iexact Hfc0_0'
          iexact Hfd0_0'
        isplitl [HW']
        · iexists W'; isplitr; · ipureintro; exact fun _ _ => Or.inl trivial
          iexact HW'
        isplitl [H0]; · iexact H0
        isplitl [H1]; · iexact H1
        isplitl [H2]
        · iexists _; isplitr; swap; · iexact H2
          ipureintro; exact rfl
        isplitl [H3]
        · iexists _; isplitr; swap; · iexact H3
          ipureintro; exact rfl
        isplitl [H4]
        · iexists _; isplitr; swap; · iexact H4
          ipureintro; exact rfl
        isplitl [H5]
        · iexists _; isplitr; swap; · iexact H5
          ipureintro; exact rfl
        iexists _; isplitr; swap; · iexact H6
        ipureintro; intro h; exact absurd h (by decide)
    · exfalso; omega
  · by_cases h1 : t.val < 93
    · by_cases h2 : t.val % 96 = 95
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        have hr0 := rstep0_0_B t (fun h => h0 ((hcond0_0 t).mp h)) ((hcond0_1 t).mpr h1) (fun h => h2 ((hcond0_2 t).mp h))
        obtain ⟨hK10, hKB0, hKs0⟩ := hr0
        rw [if_neg (show ¬t.val = 0 by omega), if_neg (show ¬t.val + 1 = 0 by omega)]
        rw [Ring.At4_here _ _ _ _ t.val hKB0, Ring.At4_next _ _ _ _ t.val hKB0, Ring.slotAt4_next0 _ _ _ t.val (by omega), Ring.slotAt4_next1 _ _ _ t.val (by omega), Ring.slotAt4_next2 _ _ _ t.val hKB0]
        iintro ⟨⟨⟨%e0, %he0, HS0⟩, ⟨%e1, %he1, HS1⟩, Hg, ⟨-, Hfr0_0_0, Hfr0_0_1, Hfr0_0_2, Hfr0_0_3⟩⟩, ⟨%W, -, HW⟩, ⟨%d0, H0⟩, ⟨%d1, H1⟩, ⟨%d2, %hd2, H2⟩, ⟨%d3, %hd3, H3⟩, ⟨%d4, %hd4, H4⟩, ⟨%d5, %hd5, H5⟩, ⟨%d6, %hd6, H6⟩⟩
        have ht0 : t.val ≠ 0 := by omega
        obtain rfl := he0 (Nat.pos_of_ne_zero ht0)
        obtain rfl := found3 m c t ht0 d3 hd3
        obtain rfl := found4 m c t ht0 d4 hd4
        have hS := ScrAt_step' m c t e1 he1
        iapply ((kernelRun0_B c t _ _ _ _ _ _ _ _ _ _ _ _ _ _ _ _ _ _ (fun h => h0 ((hcond0_0 t).mp h)) ((hcond0_1 t).mpr h1) (fun h => h2 ((hcond0_2 t).mp h)) (iblk m c 0 t) (iblk m c 1 t) (V m c main_arg1)) d2 _ _ d5 d6 _ e1 W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [Hfr0_0_0]; · iexact Hfr0_0_0
        isplitl [Hfr0_0_1]; · iexact Hfr0_0_1
        isplitl [Hfr0_0_2]; · iexact Hfr0_0_2
        isplitl [Hfr0_0_3]; · iexact Hfr0_0_3
        isplitl [HW]; · iexact HW
        iintro ⟨H0, H1, H2, H3, H4, H5, H6, HS0, HS1, Hfa0_0', Hfb0_0', Hfc0_0', Hfd0_0', ⟨%W', HW'⟩⟩
        isplitl [HS0 HS1 Hg Hfa0_0' Hfb0_0' Hfc0_0' Hfd0_0']
        · isplitl [HS0]
          · iexists _; isplitr; swap; · iexact HS0
            ipureintro; exact fun _ => rfl
          isplitl [HS1]
          · iexists _; isplitr; swap; · iexact HS1
            ipureintro; exact hS
          isplitl [Hg]; · iexact Hg
          iapply (Ring.with_homes (Idealize.SL.BI.Entails.refl _))
          isplitl [Hfa0_0']; · iexact Hfa0_0'
          isplitl [Hfb0_0']; · iexact Hfb0_0'
          isplitl [Hfc0_0']; · iexact Hfc0_0'
          iexact Hfd0_0'
        isplitl [HW']
        · iexists W'; isplitr; · ipureintro; exact fun _ _ => Or.inl trivial
          iexact HW'
        isplitl [H0]; · iexact H0
        isplitl [H1]; · iexact H1
        isplitl [H2]
        · iexists _; isplitr; swap; · iexact H2
          ipureintro; exact rfl
        isplitl [H3]
        · iexists _; isplitr; swap; · iexact H3
          ipureintro; exact rfl
        isplitl [H4]
        · iexists _; isplitr; swap; · iexact H4
          ipureintro; exact rfl
        isplitl [H5]
        · iexists _; isplitr; swap; · iexact H5
          ipureintro; exact rfl
        iexists _; isplitr; swap; · iexact H6
        ipureintro; intro h; omega
    · by_cases h2 : t.val % 96 = 95
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        have hr0 := rstep0_0_D t (fun h => h0 ((hcond0_0 t).mp h)) (fun h => h1 ((hcond0_1 t).mp h)) ((hcond0_2 t).mpr h2)
        obtain ⟨hK10, hKB0, hKlt0, hKs0⟩ := hr0
        rw [if_neg (show ¬t.val = 0 by omega), if_neg (show ¬t.val + 1 = 0 by omega)]
        rw [Ring.At4_here_tail _ _ _ _ t.val hKlt0, Ring.At4_next_tail _ _ _ _ t.val hKB0 hKlt0, Ring.slotAt4_tail_role _ _ _ t.val, Ring.slotAt4_tail_role1 _ _ _ t.val]
        iintro ⟨⟨⟨%e0, %he0, HS0⟩, ⟨%e1, %he1, HS1⟩, Hg, ⟨-, Hfr0_0_0, Hfr0_0_1, Hfr0_0_2, Hfr0_0_3⟩⟩, ⟨%W, -, HW⟩, ⟨%d0, H0⟩, ⟨%d1, H1⟩, ⟨%d2, %hd2, H2⟩, ⟨%d3, %hd3, H3⟩, ⟨%d4, %hd4, H4⟩, ⟨%d5, %hd5, H5⟩, ⟨%d6, %hd6, H6⟩⟩
        have ht0 : t.val ≠ 0 := by omega
        obtain rfl := he0 (Nat.pos_of_ne_zero ht0)
        obtain rfl := found3 m c t ht0 d3 hd3
        obtain rfl := found4 m c t ht0 d4 hd4
        have hS := ScrAt_step' m c t e1 he1
        iapply ((kernelRun0_D c t _ _ _ _ _ _ _ _ _ _ _ _ _ _ _ _ _ _ (fun h => h0 ((hcond0_0 t).mp h)) (fun h => h1 ((hcond0_1 t).mp h)) ((hcond0_2 t).mpr h2) (iblk m c 0 t) (iblk m c 1 t) (V m c main_arg1)) d2 _ _ d5 d6 _ e1 W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [Hfr0_0_0]; · iexact Hfr0_0_0
        isplitl [Hfr0_0_1]; · iexact Hfr0_0_1
        isplitl [Hfr0_0_2]; · iexact Hfr0_0_2
        isplitl [Hfr0_0_3]; · iexact Hfr0_0_3
        isplitl [HW]; · iexact HW
        iintro ⟨H0, H1, H2, H3, H4, H5, H6, HS0, HS1, Hfa0_0', Hfb0_0', Hfc0_0', Hfd0_0', ⟨%W', HW'⟩⟩
        isplitl [HS0 HS1 Hg Hfa0_0' Hfb0_0' Hfc0_0' Hfd0_0']
        · isplitl [HS0]
          · iexists _; isplitr; swap; · iexact HS0
            ipureintro; exact fun _ => rfl
          isplitl [HS1]
          · iexists _; isplitr; swap; · iexact HS1
            ipureintro; exact hS
          isplitl [Hg]; · iexact Hg
          iapply (Ring.with_homes (Idealize.SL.BI.Entails.refl _))
          isplitl [Hfa0_0']; · iexact Hfa0_0'
          isplitl [Hfb0_0']; · iexact Hfb0_0'
          isplitl [Hfc0_0']; · iexact Hfc0_0'
          iexact Hfd0_0'
        isplitl [HW']
        · iexists W'; isplitr; · ipureintro; exact fun _ _ => Or.inl trivial
          iexact HW'
        isplitl [H0]; · iexact H0
        isplitl [H1]; · iexact H1
        isplitl [H2]
        · iexists _; isplitr; swap; · iexact H2
          ipureintro; exact rfl
        isplitl [H3]
        · iexists _; isplitr; swap; · iexact H3
          ipureintro; exact rfl
        isplitl [H4]
        · iexists _; isplitr; swap; · iexact H4
          ipureintro; exact rfl
        isplitl [H5]
        · iexists _; isplitr; swap; · iexact H5
          ipureintro; exact rfl
        iexists _; isplitr; swap; · iexact H6
        ipureintro; intro h; exact ⟨_, by have h9 := ScrAt_step m c t e1 he1; rw [h] at h9; exact h9, rfl⟩
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        have hr0 := rstep0_0_C t (fun h => h0 ((hcond0_0 t).mp h)) (fun h => h1 ((hcond0_1 t).mp h)) (fun h => h2 ((hcond0_2 t).mp h))
        obtain ⟨hK10, hKB0, hKlt0, hKs0⟩ := hr0
        rw [if_neg (show ¬t.val = 0 by omega), if_neg (show ¬t.val + 1 = 0 by omega)]
        rw [Ring.At4_here_tail _ _ _ _ t.val hKlt0, Ring.At4_next_tail _ _ _ _ t.val hKB0 hKlt0, Ring.slotAt4_tail_role _ _ _ t.val, Ring.slotAt4_tail_role1 _ _ _ t.val]
        iintro ⟨⟨⟨%e0, %he0, HS0⟩, ⟨%e1, %he1, HS1⟩, Hg, ⟨-, Hfr0_0_0, Hfr0_0_1, Hfr0_0_2, Hfr0_0_3⟩⟩, ⟨%W, -, HW⟩, ⟨%d0, H0⟩, ⟨%d1, H1⟩, ⟨%d2, %hd2, H2⟩, ⟨%d3, %hd3, H3⟩, ⟨%d4, %hd4, H4⟩, ⟨%d5, %hd5, H5⟩, ⟨%d6, %hd6, H6⟩⟩
        have ht0 : t.val ≠ 0 := by omega
        obtain rfl := he0 (Nat.pos_of_ne_zero ht0)
        obtain rfl := found3 m c t ht0 d3 hd3
        obtain rfl := found4 m c t ht0 d4 hd4
        have hS := ScrAt_step' m c t e1 he1
        iapply ((kernelRun0_C c t _ _ _ _ _ _ _ _ _ _ _ _ _ _ _ _ _ _ (fun h => h0 ((hcond0_0 t).mp h)) (fun h => h1 ((hcond0_1 t).mp h)) (fun h => h2 ((hcond0_2 t).mp h)) (iblk m c 0 t) (iblk m c 1 t) (V m c main_arg1)) d2 _ _ d5 d6 _ e1 W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [Hfr0_0_0]; · iexact Hfr0_0_0
        isplitl [Hfr0_0_1]; · iexact Hfr0_0_1
        isplitl [Hfr0_0_2]; · iexact Hfr0_0_2
        isplitl [Hfr0_0_3]; · iexact Hfr0_0_3
        isplitl [HW]; · iexact HW
        iintro ⟨H0, H1, H2, H3, H4, H5, H6, HS0, HS1, Hfa0_0', Hfb0_0', Hfc0_0', Hfd0_0', ⟨%W', HW'⟩⟩
        isplitl [HS0 HS1 Hg Hfa0_0' Hfb0_0' Hfc0_0' Hfd0_0']
        · isplitl [HS0]
          · iexists _; isplitr; swap; · iexact HS0
            ipureintro; exact fun _ => rfl
          isplitl [HS1]
          · iexists _; isplitr; swap; · iexact HS1
            ipureintro; exact hS
          isplitl [Hg]; · iexact Hg
          iapply (Ring.with_homes (Idealize.SL.BI.Entails.refl _))
          isplitl [Hfa0_0']; · iexact Hfa0_0'
          isplitl [Hfb0_0']; · iexact Hfb0_0'
          isplitl [Hfc0_0']; · iexact Hfc0_0'
          iexact Hfd0_0'
        isplitl [HW']
        · iexists W'; isplitr; · ipureintro; exact fun _ _ => Or.inl trivial
          iexact HW'
        isplitl [H0]; · iexact H0
        isplitl [H1]; · iexact H1
        isplitl [H2]
        · iexists _; isplitr; swap; · iexact H2
          ipureintro; exact rfl
        isplitl [H3]
        · iexists _; isplitr; swap; · iexact H3
          ipureintro; exact rfl
        isplitl [H4]
        · iexists _; isplitr; swap; · iexact H4
          ipureintro; exact rfl
        isplitl [H5]
        · iexists _; isplitr; swap; · iexact H5
          ipureintro; exact rfl
        iexists _; isplitr; swap; · iexact H6
        ipureintro; intro h; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : Pipeline.BodyObligationRel (dats (F := F) m 0 c) (defs₀ (F := F)) Variants.none () Set.univ forgets0 (Rl m c) := fun t => by
  rw [bigSep_W0, bigSep_W0, defs₀_row]
  exact triple_restated (sound_body m c t) rfl .rfl fun _ => .rfl

/-- What the launch hands the region (`ΦD`: the scratch, the register, the cells at zero, the HBM operands whole) is the
    invariant before the first point, and the invariant after the last point hands it back. -/
theorem hin (c : Dev nD) : Pipeline.ΦD osem0 spec0 H0 (V m) c ⊢ (dats m 0 c).Φ 0 := by
  rw [PhiD0_eq, show (dats m 0 c).Φ 0 = PhiR m c 0 from rfl]
  unfold PhiR
  iintro ⟨⟨HS0, HS1, HR0_0⟩, Hg, ⟨Hq0, Hq1, Hq2, Hq3⟩, Hh0⟩
  icases HS0 with ⟨%e0, HS0⟩
  icases HS1 with ⟨%e1, HS1⟩
  isplitl [HS0]
  · iexists e0; isplitr; swap; · iexact HS0
    ipureintro; exact fun h => absurd h (Nat.lt_irrefl 0)
  isplitl [HS1]
  · iexists e1; isplitr; swap; · iexact HS1
    ipureintro; exact ScrAt_zero m c e1
  isplitl [Hg]; · iexact Hg
  iapply (ring0_0_in (F := F) m c)
  isplitl [HR0_0]; · iexact HR0_0
  isplitl [Hq0 Hq1 Hq2 Hq3]
  · isplitl [Hq0]; · iexact Hq0
    isplitl [Hq1]; · iexact Hq1
    isplitl [Hq2]; · iexact Hq2
    iexact Hq3
  iexact Hh0
/-- What the last point leaves gives back all that the run took. -/
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR
  rw [show grid0.N = 96 by rw [N_0]]
  iintro ⟨⟨%e0, -, HS0⟩, ⟨%e1, -, HS1⟩, Hg, HR0_0⟩
  ihave HX0_0 := (ring0_0_out (F := F) m c) $$ HR0_0
  icases HX0_0 with ⟨HR0_0, ⟨Hq0, Hq1, Hq2, Hq3⟩, Hh0⟩
  isplitl [HS0 HS1 HR0_0]
  · isplitl [HS0]; · iexists e0; iexact HS0
    isplitl [HS1]; · iexists e1; iexact HS1
    iexact HR0_0
  isplitl [Hg]
  · iexact Hg
  isplitl [Hq0 Hq1 Hq2 Hq3]
  · isplitl [Hq0]; · iexact Hq0
    isplitl [Hq1]; · iexact Hq1
    isplitl [Hq2]; · iexact Hq2
    iexact Hq3
  iexact Hh0

/-! ## The run and the frame -/

set_option backward.isDefEq.respectTransparency.types false in
/-- The run of the whole program: it terminates, the arrays end as the relational data say, and every semaphore counter is zero. -/
theorem run_main : θ_run defs (onTc (τ := τ) (main (F := F))) (s₀ m ρ) (fun r => Pipeline.RDat.FramePost (cfgs 0) (fun c => rdats m c) (V m) r ∧ r.2.sem = fun _ => 0) :=
  Pipeline.RDat.θ_run_frame_dma (Q' := _) cfgs (0 : Fin 1) launch0 osem0 defs₀ Variants.none (fun c => rdats m c) ownSemFacts0 H0 H0_sub m ρ main
    (hbody := fun c => (body_obligation m c).toRRel) (hshare := fun c => (dats m 0 c).share_full fun _ => rfl)
    (howed := fun _ _ => rfl) (V := V m) (hmain := hmain m Variants.none) (hA := A_eq m) (hin := hin m) (hout := hout m)

/-- The argument arrays end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main m ρ)

end Cert.KernelIdeal.Hand

end
-- ==== Proof.Scale.lean ====
module

public import Idealize.ShloMosaic.Lib.Pointwise

@[expose] public section

set_option maxRecDepth 16384

noncomputable section

namespace Cert.Scale

open Idealize.ShloMosaic

/-! # The power-of-two scale of a group

A group of 128 lanes is quantised with a power of two: the least one above `y`, the group's largest magnitude over 448,
with `1` for a `y` below the least normal number and `2 ^ 120` at the top of the range.  One program finds it by a search
over exponent fields, the other as the least of a list of powers.  Both are shown to be `sclOf`, for every extended real
`y`. -/

/-- The value of the `f32` pattern with exponent field `k` and nothing else: zero, or a power of two. -/
def pw (k : ℕ) : EReal := if k = 0 then 0 else (((2 : ℝ) ^ ((k : ℤ) - 127) : ℝ) : EReal)

/-- The pattern with exponent field `k` denotes `pw k`. -/
theorem ofBits_field (k : ℕ) (hk : k < 255) :
    Ideal.ofBits .f32 (IntOp.shli ArithUnit.vector (BitVec.ofNat 32 k) 23#32) = pw k := by
  have hs : (IntOp.shli ArithUnit.vector (BitVec.ofNat 32 k) 23#32).toNat = k * 2 ^ 23 := by
    unfold IntOp.shli
    simp only [BitVec.toNat_ofNat, BitVec.shiftLeft_eq', BitVec.toNat_shiftLeft, Nat.shiftLeft_eq]
    simp
    omega
  have h0 : (IntOp.shli ArithUnit.vector (BitVec.ofNat 32 k) 23#32).extractLsb' 31 1 = 0#1 := by
    apply BitVec.eq_of_toNat_eq
    rw [BitVec.extractLsb'_toNat, hs, Nat.shiftRight_eq_div_pow]
    simp
    omega
  have h1 : ((IntOp.shli ArithUnit.vector (BitVec.ofNat 32 k) 23#32).extractLsb' 23 8).toNat = k := by
    rw [BitVec.extractLsb'_toNat, hs, Nat.shiftRight_eq_div_pow]
    omega
  have h2 : ((IntOp.shli ArithUnit.vector (BitVec.ofNat 32 k) 23#32).extractLsb' 0 23).toNat = 0 := by
    rw [BitVec.extractLsb'_toNat, hs, Nat.shiftRight_eq_div_pow]
    omega
  show Ideal.ieee 8 23 _ = _
  unfold Ideal.ieee pw
  simp only [Nat.reduceAdd, h0, h1, h2]
  have hk' : ¬ k = 255 := by omega
  by_cases k0 : k = 0
  · simp [k0]
  · have c : ((k : ℤ) - (2 ^ (8 - 1) - 1) - ((23 : ℕ) : ℤ)) = ((k : ℤ) - 127) + (-23 : ℤ) := by norm_num; ring
    have d : (2 : ℝ) ^ (-23 : ℤ) = 1 / 8388608 := by norm_num
    have n : (((2 ^ 23 + 0 : ℕ)) : ℝ) = 8388608 := by norm_num
    rw [if_neg (show ¬ k = 2 ^ 8 - 1 by norm_num; omega), if_neg k0, if_neg k0, c, zpow_add₀ (two_ne_zero), d, n,
      if_neg (show ¬ ((0#1 == 1#1) = true) by decide)]
    refine congrArg Real.toEReal ?_
    ring

/-- Larger fields denote larger values. -/
theorem pw_mono {a b : ℕ} (h : a ≤ b) : pw a ≤ pw b := by
  unfold pw
  by_cases hb : b = 0
  · have : a = 0 := by omega
    simp [this, hb]
  · by_cases ha : a = 0
    · simp only [ha, hb, if_true, if_false]
      exact_mod_cast (zpow_pos (by norm_num : (0 : ℝ) < 2) _).le
    · simp only [ha, hb, if_false]
      exact EReal.coe_le_coe_iff.mpr (zpow_le_zpow_right₀ (by norm_num : (1 : ℝ) ≤ 2) (by omega))

/-- Field 127 is the number one. -/
theorem pw_127 : pw 127 = 1 := by simp [pw]

/-- The exponent field of `y`: the largest field up to 246 whose value `y` reaches, zero if none. -/
def fieldOf (y : EReal) : ℕ := by
  classical exact Nat.findGreatest (fun k => pw k ≤ y) 246

/-- Fields end at 246. -/
theorem fieldOf_le (y : EReal) : fieldOf y ≤ 246 := by
  classical exact Nat.findGreatest_le 246

/-- A power that the number reaches has a field no larger than its field. -/
theorem le_fieldOf (y : EReal) {k : ℕ} (hk : k ≤ 246) (h : pw k ≤ y) : k ≤ fieldOf y := by
  classical exact Nat.le_findGreatest (P := fun k => pw k ≤ y) hk h

/-- The number reaches the power of its field. -/
theorem pw_fieldOf (y : EReal) (h : fieldOf y ≠ 0) : pw (fieldOf y) ≤ y := by
  classical exact Nat.findGreatest_of_ne_zero (P := fun k => pw k ≤ y) (n := 246) rfl h

/-- The scale of a group. -/
def sclOf (y : EReal) : EReal := pw (if fieldOf y = 0 then 127 else fieldOf y + 1)

/-- The factor the codes are made with: the reciprocal of the scale. -/
def invOf (y : EReal) : EReal := pw (if fieldOf y = 0 then 127 else 253 - fieldOf y)

/-! ## The search over exponent fields -/

/-- The largest reached field, as the program's maximum over 256 lanes. -/
theorem fold_field (y : EReal) :
    Finset.fold max (⊥ : EReal) (fun x : Fin 256 => if pw (min x.val 246) ≤ y then (((min x.val 246 : ℕ) : ℝ) : EReal) else 0) Finset.univ
      = (((fieldOf y : ℕ) : ℝ) : EReal) := by
  refine le_antisymm ?_ ?_
  · rw [Finset.fold_max_le]
    refine ⟨bot_le, fun x _ => ?_⟩
    split
    · rename_i h
      have := le_fieldOf y (Nat.min_le_right x.val 246) h
      exact_mod_cast this
    · exact_mod_cast Nat.zero_le _
  · rw [Finset.le_fold_max]
    have hf := fieldOf_le y
    refine Or.inr ⟨⟨fieldOf y, by omega⟩, Finset.mem_univ _, ?_⟩
    simp only [Nat.min_eq_left hf]
    by_cases h0 : fieldOf y = 0
    · rw [h0]; split <;> simp
    · rw [if_pos (pw_fieldOf y h0)]

/-- A small natural number survives the conversion to a word. -/
theorem fptosi_nat (k : ℕ) (hk : k < 256) : Ideal.fptosi 32 (((k : ℕ) : ℝ) : EReal) = BitVec.ofNat 32 k := by
  rw [Ideal.fptosi, Ideal.toIntClamped_coe]
  have h1 : (0 : ℝ) ≤ (k : ℝ) := Nat.cast_nonneg k
  rw [if_pos h1, Int.floor_natCast, min_eq_right (by norm_num; omega), max_eq_right (by norm_num)]
  exact BitVec.ofInt_natCast 32 k

/-- The exponent field of the scale, as the program's integers compute it from the field of `y`. -/
theorem scale_field (k : ℕ) (hk : k ≤ 246) :
    IntOp.addi 127#32 (Scalar.select (IntOp.cmpi .eq (BitVec.ofNat 32 k) 0#32) (0#32) (IntOp.subi (BitVec.ofNat 32 k) 126#32))
      = BitVec.ofNat 32 (if k = 0 then 127 else k + 1) := by
  have h : ∀ k : Fin 247, IntOp.addi 127#32 (Scalar.select (IntOp.cmpi .eq (BitVec.ofNat 32 k.val) 0#32) (0#32) (IntOp.subi (BitVec.ofNat 32 k.val) 126#32))
      = BitVec.ofNat 32 (if k.val = 0 then 127 else k.val + 1) := by decide
  exact h ⟨k, by omega⟩

/-- The exponent field of the reciprocal, likewise. -/
theorem inv_field (k : ℕ) (hk : k ≤ 246) :
    IntOp.subi 127#32 (Scalar.select (IntOp.cmpi .eq (BitVec.ofNat 32 k) 0#32) (0#32) (IntOp.subi (BitVec.ofNat 32 k) 126#32))
      = BitVec.ofNat 32 (if k = 0 then 127 else 253 - k) := by
  have h : ∀ k : Fin 247, IntOp.subi 127#32 (Scalar.select (IntOp.cmpi .eq (BitVec.ofNat 32 k.val) 0#32) (0#32) (IntOp.subi (BitVec.ofNat 32 k.val) 126#32))
      = BitVec.ofNat 32 (if k.val = 0 then 127 else 253 - k.val) := by decide
  exact h ⟨k, by omega⟩

/-- The lane number, bounded by 246, as a word. -/
theorem minsi_lane (k : ℕ) (hk : k < 256) : IntOp.minsi (BitVec.ofNat 32 k) 246#32 = BitVec.ofNat 32 (min k 246) := by
  have h : ∀ k : Fin 256, IntOp.minsi (BitVec.ofNat 32 k.val) 246#32 = BitVec.ofNat 32 (min k.val 246) := by decide
  exact h ⟨k, hk⟩

/-- A small word read signed is itself. -/
theorem toInt_small (k : ℕ) (hk : k < 256) : (BitVec.ofNat 32 k).toInt = (k : ℤ) := by
  have h : ∀ k : Fin 256, (BitVec.ofNat 32 k.val).toInt = (k.val : ℤ) := by decide
  exact h ⟨k, hk⟩

/-! ## The least of the powers above -/

/-- The field is zero exactly below the least normal power. -/
theorem fieldOf_eq_zero (y : EReal) : fieldOf y = 0 ↔ y < pw 1 := by
  constructor
  · intro h
    by_contra hc
    have := le_fieldOf y (k := 1) (by omega) (not_lt.mp hc)
    omega
  · intro h
    by_contra hc
    exact absurd h (not_lt.mpr ((pw_mono (by omega)).trans (pw_fieldOf y hc)))

/-- The least power above `y` among the listed ones, the last where none is, is the value of the next field. -/
theorem fold_powers (y : EReal) (h0 : fieldOf y ≠ 0) :
    Finset.fold min (⊤ : EReal) (fun x : Fin 246 => if y < pw (x.val + 2) then pw (x.val + 2) else pw 247) Finset.univ
      = pw (fieldOf y + 1) := by
  have hf := fieldOf_le y
  refine le_antisymm ?_ ?_
  · rw [Finset.fold_min_le]
    refine Or.inr ⟨⟨fieldOf y - 1, by omega⟩, Finset.mem_univ _, ?_⟩
    have e : fieldOf y - 1 + 2 = fieldOf y + 1 := by omega
    simp only [e]
    split
    · exact le_refl _
    · rename_i h
      have : 246 < fieldOf y + 1 := by
        by_contra hc
        have := le_fieldOf y (k := fieldOf y + 1) (by omega) (not_lt.mp h)
        omega
      exact pw_mono (by omega)
  · rw [Finset.le_fold_min]
    refine ⟨le_top, fun x _ => ?_⟩
    split
    · rename_i h
      refine pw_mono ?_
      by_contra hc
      exact absurd h (not_lt.mpr ((pw_mono (by omega)).trans (pw_fieldOf y h0)))
    · exact pw_mono (by omega)

/-- The listed powers. -/
theorem exp2_lane (k : ℕ) : Ideal.exp2 ((((k : ℕ) : ℝ) : EReal) - Ideal.ofBits .f32 0x42FA0000#32) = pw (k + 2) := by
  have e : Ideal.ofBits .f32 0x42FA0000#32 = ((125 : ℝ) : EReal) := by
    simp [Ideal.ofBits, Ideal.ieee]
    rw [← EReal.coe_mul]
    norm_num
  rw [e, ← EReal.coe_sub, Ideal.exp2_coe]
  unfold pw
  rw [if_neg (by omega)]
  congr 1
  show (2 : ℝ) ^ ((k : ℝ) - 125) = _
  rw [← Real.rpow_intCast]
  congr 1
  push_cast
  ring

/-- The word with exponent field 247 and no fraction. -/
theorem ofBits_247 : Ideal.ofBits .f32 0x7B800000#32 = pw 247 := ofBits_field 247 (by omega)
/-- The word with exponent field 1 and no fraction. -/
theorem ofBits_1 : Ideal.ofBits .f32 0x00800000#32 = pw 1 := ofBits_field 1 (by omega)

/-- The reference's scale. -/
theorem ref_scale (y : EReal) :
    (if y < pw 1 then (1 : EReal) else
      Finset.fold min (⊤ : EReal) (fun x : Fin 246 => if y < pw (x.val + 2) then pw (x.val + 2) else pw 247) Finset.univ)
      = sclOf y := by
  unfold sclOf
  by_cases h : fieldOf y = 0
  · rw [if_pos ((fieldOf_eq_zero y).mp h), if_pos h, pw_127]
  · rw [if_neg (fun hc => h ((fieldOf_eq_zero y).mpr hc)), if_neg h, fold_powers y h]

/-- The reciprocal of the scale is the factor the codes are made with. -/
theorem inv_scale (y : EReal) : Ideal.div 1 (sclOf y) = invOf y := by
  have hf := fieldOf_le y
  unfold sclOf invOf pw
  have e1 : ¬ (if fieldOf y = 0 then 127 else fieldOf y + 1) = 0 := by split <;> omega
  have e2 : ¬ (if fieldOf y = 0 then 127 else 253 - fieldOf y) = 0 := by split <;> omega
  rw [if_neg e1, if_neg e2]
  have e3 : (((if fieldOf y = 0 then 127 else 253 - fieldOf y : ℕ) : ℤ)) - 127
      = - ((((if fieldOf y = 0 then 127 else fieldOf y + 1 : ℕ) : ℤ)) - 127) := by
    split <;> omega
  rw [e3, zpow_neg]
  generalize (((if fieldOf y = 0 then 127 else fieldOf y + 1 : ℕ) : ℤ)) - 127 = z
  have hp : (2 : ℝ) ^ z ≠ 0 := (zpow_pos (by norm_num) z).ne'
  rw [show (1 : EReal) = ((1 : ℝ) : EReal) from rfl, Ideal.div_coe hp, ← EReal.coe_mul]
  simp

/-! ## The five results as functions of the inputs -/

/-- The minus infinity the maxima start from. -/
theorem ofBits_neg_inf : Ideal.ofBits .f32 0xFF800000#32 = ⊥ := by simp [Ideal.ofBits, Ideal.ieee]

/-- The infinity the minima start from. -/
theorem ofBits_pos_inf : Ideal.ofBits .f32 0x7F800000#32 = ⊤ := by simp [Ideal.ofBits, Ideal.ieee]

/-- The largest magnitude of a group over 448. -/
def yOf (f : Fin 128 → EReal) : EReal :=
  Finset.fold max ⊥ (fun x => max (f x) (-(f x))) Finset.univ * Ideal.ofBits .f32 0x3B124925#32

/-- The code of a value in a group whose largest magnitude over 448 is `y`. -/
def codeOf (y v : EReal) : EReal :=
  min (Ideal.ofBits .f32 0x43E00000#32) (max (Ideal.ofBits .f32 0xC3E00000#32) (v * invOf y))

section Results

variable (X : Fin 16 → Fin 7168 → EReal) (S : Fin 2 → Fin 192 → Fin 56 → EReal) (W : Fin 2 → Fin 24576 → Fin 7168 → EReal)

/-- Largest magnitude over 448 of group `g` of row `r` of the input. -/
def xy (r : Fin 16) (g : Fin 56) : EReal :=
  yOf fun l => X r ⟨g.val * 128 + l.val, by omega⟩

/-- The input's scales. -/
def xs (r : Fin 16) (g : Fin 56) : EReal := sclOf (xy X r g)

/-- The input's codes. -/
def xc (r : Fin 16) (d : Fin 7168) : EReal := codeOf (xy X r ⟨d.val / 128, by omega⟩) (X r d)

/-- The decoded input. -/
def xq (r : Fin 16) (d : Fin 7168) : EReal := xc X r d * xs X r ⟨d.val / 128, by omega⟩

/-- The product with the weights, each entry scaled by its block's weight scale: gate for `h = 0`, up for `h = 1`. -/
def gu (h : Fin 2) (r : Fin 16) (n : Fin 24576) : EReal :=
  ∑ d : Fin 7168, xq X r d * S h ⟨n.val / 128, by omega⟩ ⟨d.val / 128, by omega⟩ * W h n d

/-- The activation. -/
def act (r : Fin 16) (n : Fin 24576) : EReal :=
  gu X S W 0 r n * Ideal.logistic (gu X S W 0 r n) * gu X S W 1 r n

/-- Largest magnitude over 448 of group `g` of row `r` of the activation. -/
def ay (r : Fin 16) (g : Fin 192) : EReal :=
  yOf fun l => act X S W r ⟨g.val * 128 + l.val, by omega⟩

/-- The activation's scales. -/
def asc (r : Fin 16) (g : Fin 192) : EReal := sclOf (ay X S W r g)

/-- The activation's codes. -/
def ac (r : Fin 16) (n : Fin 24576) : EReal := codeOf (ay X S W r ⟨n.val / 128, by omega⟩) (act X S W r n)

end Results

end Cert.Scale
-- ==== Proof.KVal.lean ====
module

public import proofs.«01_k».proof.Proof.Spec
public import proofs.«01_k».proof.Proof.Scale
public import Idealize.ShloMosaic.Lib.Pipeline.Value

@[expose] public section

set_option maxRecDepth 16384
set_option maxHeartbeats 2000000

noncomputable section

namespace Cert.KernelIdeal.Hand

open Idealize.ShloMosaic Cert.Scale
open Cert.KernelIdeal.Facts Cert.KernelIdeal.Gen
variable [Cert.KernelIdeal.Facts]

/-- A group's scale quotient: its largest magnitude divided by 448. -/
theorem ymax_apply (v : FVec Ideal S16x128 .f32) (r : Fin 16) (l : Fin 1) :
    ymax v (ix2 r l) = yOf (fun x => v (ix2 r x)) := by
  pointwise [ymax]
  rw [ofBits_neg_inf]
  rfl

/-- The searched field as a word. -/
theorem search_eq (y : EReal) :
    FloatOps.fptosi (F := Ideal) (φ := .f32) 32
          (Finset.fold max (Ideal.ofBits FTy.f32 4286578688#32)
            (fun x : Fin 256 =>
              if
                  Ideal.ofBits FTy.f32 (IntOp.shli ArithUnit.vector (IntOp.minsi (BitVec.ofNat 32 x.val) 246#32) 23#32) ≤ y then
                FloatOps.sitofp FTy.f32 (IntOp.minsi (BitVec.ofNat 32 x.val) 246#32)
              else 0)
            Finset.univ) = BitVec.ofNat 32 (fieldOf y) := by
  have e : (fun x : Fin 256 =>
              if
                  Ideal.ofBits FTy.f32 (IntOp.shli ArithUnit.vector (IntOp.minsi (BitVec.ofNat 32 x.val) 246#32) 23#32) ≤ y then
                FloatOps.sitofp (F := Ideal) FTy.f32 (IntOp.minsi (BitVec.ofNat 32 x.val) 246#32)
              else (0 : EReal)) = (fun x : Fin 256 => if pw (min x.val 246) ≤ y then (((min x.val 246 : ℕ) : ℝ) : EReal) else 0) := by
    funext x
    rw [minsi_lane x.val x.isLt, ofBits_field _ (by omega)]
    have e2 : FloatOps.sitofp (F := Ideal) FTy.f32 (BitVec.ofNat 32 (min x.val 246)) = (((min x.val 246 : ℕ) : ℝ) : EReal) := by
      show ((((BitVec.ofNat 32 (min x.val 246)).toInt : ℤ) : ℝ) : EReal) = _
      rw [toInt_small _ (by omega)]
      norm_cast
    rw [e2]
  rw [e, ofBits_neg_inf, fold_field]
  have := fieldOf_le y
  exact fptosi_nat _ (by omega)

/-- The exponent that the kernel takes of a quotient. -/
theorem expo_apply (v : FVec Ideal S16x1 .f32) (r : Fin 16) (l : Fin 1) :
    k0_pay5 v (ix2 r l) = Scalar.select (IntOp.cmpi .eq (BitVec.ofNat 32 (fieldOf (v (ix2 r 0)))) 0#32) (0#32)
      (IntOp.subi (BitVec.ofNat 32 (fieldOf (v (ix2 r 0)))) 126#32) := by
  pointwise [k0_pay5]
  rw [search_eq]

/-- The scale that the kernel takes of a quotient. -/
theorem scaleOf_apply (v : FVec Ideal S16x1 .f32) (r : Fin 16) (l : Fin 1) :
    k0_pay6 v (ix2 r l) = sclOf (v (ix2 r 0)) := by
  pointwise [k0_pay6]
  rw [expo_apply, scale_field _ (fieldOf_le _), ofBits_field _ (by have := fieldOf_le (v (ix2 r 0)); split <;> omega)]
  rfl

/-- The codes that the kernel takes of a group. -/
theorem codesOf_apply (v : FVec Ideal S16x128 .f32) (y : FVec Ideal S16x1 .f32) (r : Fin 16) (l : Fin 128) :
    k0_pay7 v y (ix2 r l) = codeOf (y (ix2 r 0)) (v (ix2 r l)) := by
  pointwise [k0_pay7]
  rw [expo_apply, inv_field _ (fieldOf_le _), ofBits_field _ (by have := fieldOf_le (y (ix2 r 0)); split <;> omega)]
  rfl

/-- A code times its scale. -/
theorem decoded_apply (v : FVec Ideal S16x128 .f32) (y : FVec Ideal S16x1 .f32) (r : Fin 16) (l : Fin 128) :
    k0_pay9 (k0_pay8 v y) (ix2 r l) = codeOf (y (ix2 r 0)) (v (ix2 r l)) * sclOf (y (ix2 r 0)) := by
  pointwise [k0_pay9, k0_pay8]
  rw [codesOf_apply, scaleOf_apply]

end Cert.KernelIdeal.Hand
-- ==== Proof.KIdx.lean ====
module

public import proofs.«01_k».proof.Proof.KVal
public import proofs.«01_k».proof.Proof.Rows

@[expose] public section

set_option maxRecDepth 65536
set_option maxHeartbeats 2000000

noncomputable section

namespace Cert.KernelIdeal.Hand

open Idealize.ShloMosaic Cert.Scale
open Cert.KernelIdeal.Facts Cert.KernelIdeal.Gen

/-! # The pure functions of one grid point, read at an index -/

section Generic

variable {F : FTy → Type} [FloatOps F]

/-- Lane `l` of group `k` is column `128 k + l`. -/
theorem groupRect_idx (k : Fin 56) (r : Fin 16) (l : Fin 128) :
    (groupRect k).idx (ix2 r l) = ix2 r ⟨k.val * 128 + l.val, by omega⟩ := by
  funext a
  apply Fin.ext
  match a with
  | ⟨0, _⟩ => show 0 + 1 * r.val = r.val; omega
  | ⟨1, _⟩ => show 128 * k.val + 1 * l.val = k.val * 128 + l.val; omega

/-- What the fifty-six group stores leave. -/
theorem canon_groups {e : EltTy} (w : Fin 56 → Vec F S16x128 e) (r : Fin 16) (d : Fin 7168) :
    View.canon (groupPieces w) (ix2 r d) = w ⟨d.val / 128, by omega⟩ (ix2 r ⟨d.val % 128, by omega⟩) := by
  refine View.canon_apply_of_pieces (Val := Elt F)
    (fun y : S16x7168.Idx => w ⟨(y 1).val / 128, by have : (y 1).val < 7168 := (y 1).isLt; omega⟩
      (ix2 (y 0) ⟨(y 1).val % 128, by omega⟩)) (groupPieces w) ?_ (ix2 r d) ?_
  · intro p hp x
    obtain ⟨k, -, rfl⟩ := List.mem_map.mp hp
    idx_vars x
    show w k (ix2 x0 x1) = _
    have e := groupRect_idx k x0 x1
    have h1 : (((groupRect k).idx (ix2 x0 x1)) 1).val = k.val * 128 + x1.val := by rw [e]; rfl
    have h0 : ((groupRect k).idx (ix2 x0 x1)) 0 = x0 := by rw [e]; rfl
    show w k (ix2 x0 x1) = w ⟨(((groupRect k).idx (ix2 x0 x1)) 1).val / 128, _⟩ (ix2 (((groupRect k).idx (ix2 x0 x1)) 0) ⟨(((groupRect k).idx (ix2 x0 x1)) 1).val % 128, _⟩)
    have hk : (⟨(((groupRect k).idx (ix2 x0 x1)) 1).val / 128, by rw [h1]; omega⟩ : Fin 56) = k := by
      apply Fin.ext; simp only [h1]; omega
    have hl : (⟨(((groupRect k).idx (ix2 x0 x1)) 1).val % 128, by omega⟩ : Fin 128) = x1 := by
      apply Fin.ext; simp only [h1]; omega
    rw [h0, hk, hl]
  · refine ⟨_, List.mem_map.mpr ⟨⟨d.val / 128, by omega⟩, mem_groupsDown _, rfl⟩, ?_⟩
    show ix2 r d ∈ (groupRect ⟨d.val / 128, by omega⟩).set
    rw [Rect.mem_set_unit]
    intro a
    match a with
    | ⟨0, _⟩ => exact ⟨Nat.zero_le _, r.isLt⟩
    | ⟨1, _⟩ =>
      show 128 * (d.val / 128) ≤ d.val ∧ d.val < 128 * (d.val / 128) + 128
      omega

/-- What the two half stores leave. -/
theorem canon_halves {e : EltTy} (w : Fin 2 → Vec F S16x128 e) (r : Fin 16) (n : Fin 256) :
    halves (w 0) (w 1) (ix2 r n) = w ⟨n.val / 128, by omega⟩ (ix2 r ⟨n.val % 128, by omega⟩) := by
  refine View.canon_apply_of_pieces (Val := Elt F)
    (fun y : S16x256.Idx => w ⟨(y 1).val / 128, by have : (y 1).val < 256 := (y 1).isLt; omega⟩
      (ix2 (y 0) ⟨(y 1).val % 128, by omega⟩)) _ ?_ (ix2 r n) ?_
  · intro p hp x
    rcases List.mem_cons.mp hp with rfl | hp
    · idx_vars x
      have h1 : ((rightRect.idx (ix2 x0 x1)) 1).val = 128 + x1.val := by show 128 + 1 * x1.val = _; omega
      have h0 : (rightRect.idx (ix2 x0 x1)) 0 = x0 := by apply Fin.ext; show 0 + 1 * x0.val = _; omega
      show w 1 (ix2 x0 x1) = w ⟨((rightRect.idx (ix2 x0 x1)) 1).val / 128, _⟩ (ix2 ((rightRect.idx (ix2 x0 x1)) 0) ⟨((rightRect.idx (ix2 x0 x1)) 1).val % 128, _⟩)
      have hk : (⟨((rightRect.idx (ix2 x0 x1)) 1).val / 128, by rw [h1]; omega⟩ : Fin 2) = 1 := by
        apply Fin.ext; simp only [h1]; show _ = 1; omega
      have hl : (⟨((rightRect.idx (ix2 x0 x1)) 1).val % 128, by omega⟩ : Fin 128) = x1 := by
        apply Fin.ext; simp only [h1]; omega
      rw [h0, hk, hl]
    · obtain rfl := List.mem_singleton.mp hp
      idx_vars x
      have h1 : ((leftRect.idx (ix2 x0 x1)) 1).val = x1.val := by show 0 + 1 * x1.val = _; omega
      have h0 : (leftRect.idx (ix2 x0 x1)) 0 = x0 := by apply Fin.ext; show 0 + 1 * x0.val = _; omega
      show w 0 (ix2 x0 x1) = w ⟨((leftRect.idx (ix2 x0 x1)) 1).val / 128, _⟩ (ix2 ((leftRect.idx (ix2 x0 x1)) 0) ⟨((leftRect.idx (ix2 x0 x1)) 1).val % 128, _⟩)
      have hk : (⟨((leftRect.idx (ix2 x0 x1)) 1).val / 128, by rw [h1]; omega⟩ : Fin 2) = 0 := by
        apply Fin.ext; simp only [h1]; show _ = 0; omega
      have hl : (⟨((leftRect.idx (ix2 x0 x1)) 1).val % 128, by omega⟩ : Fin 128) = x1 := by
        apply Fin.ext; simp only [h1]; omega
      rw [h0, hk, hl]
  · by_cases h : n.val < 128
    · refine ⟨_, List.mem_cons_of_mem _ (List.mem_singleton_self _), ?_⟩
      show ix2 r n ∈ leftRect.set
      rw [Rect.mem_set_unit]
      intro a
      match a with
      | ⟨0, _⟩ => exact ⟨Nat.zero_le _, r.isLt⟩
      | ⟨1, _⟩ => exact ⟨Nat.zero_le _, by show n.val < 0 + 128; omega⟩
    · refine ⟨_, List.mem_cons_self .., ?_⟩
      show ix2 r n ∈ rightRect.set
      rw [Rect.mem_set_unit]
      intro a
      match a with
      | ⟨0, _⟩ => exact ⟨Nat.zero_le _, r.isLt⟩
      | ⟨1, _⟩ => exact ⟨by show 128 ≤ n.val; omega, by show n.val < 128 + 128; omega⟩

/-- The weight scale of the block. -/
theorem wsv_apply (X0 : Vec F S2x56x192 .f32) (i : grid0.Coords) (h : Fin 2) (k : Fin 56) (b : Fin 2) (hc : colOf i b < 192) :
    wsv X0 i h k b = X0 (ix3 h k ⟨colOf i b, hc⟩) := by
  unfold wsv
  congr 1
  funext a
  apply Fin.ext
  match a with
  | ⟨0, _⟩ => show h.val + 1 * 0 = h.val; omega
  | ⟨1, _⟩ => show k.val + 1 * 0 = k.val; omega
  | ⟨2, _⟩ => show colOf i b + 1 * 0 = colOf i b; omega

/-- The column of weight scales that half tile `b` of a point uses. -/
theorem colOf_eq (i : grid0.Coords) (b : Fin 2) : colOf i b = 2 * (i 0).val + b.val := by
  have h : ∀ (n : Fin 96) (b : Fin 2), (Scalar.indexCast (Scalar.addi (Scalar.muli (BitVec.ofNat 32 n.val) 2#32) (BitVec.ofNat 32 b.val))).toNat
      = 2 * n.val + b.val := by decide
  exact h (i 0) b

/-- The selects one after the other: lane `g` holds what its own select put there. -/
theorem foldl_sel {α : Type} (L : List (Fin 56)) (f : Fin 56 → α) (acc : Fin 56 → α) (g : Fin 56) :
    (L.foldl (fun (acc : Fin 56 → α) k => fun j => if j = k then f k else acc j) acc) g = if g ∈ L then f g else acc g := by
  induction L generalizing acc with
  | nil => simp
  | cons k L ih =>
    rw [List.foldl_cons, ih]
    by_cases h : g ∈ L
    · simp [h]
    · by_cases h2 : g = k
      · subst h2; simp [h]
      · simp [h, h2]

/-- A row of pieces at an index. -/
theorem xrow_apply (X0 : Vec F S2x56x192 .f32) (XQ : Vec F S16x7168 .bf16) (i : grid0.Coords) (h : Fin 2) (b : Fin 2)
    (r : Fin 16) (d : Fin 7168) :
    xrow X0 XQ i h b (ix2 r d) = xpiece X0 XQ i h b ⟨d.val / 128, by omega⟩ (ix2 r ⟨d.val % 128, by omega⟩) := by
  unfold xrow
  have e : groups.map (fun k => (⟨S16x128, xpiece X0 XQ i h b k⟩ : (s : Shape) × (s.Idx → Elt F .bf16)))
      = List.ofFn fun k : Fin 56 => (⟨S16x128, xpiece X0 XQ i h b k⟩ : (s : Shape) × (s.Idx → Elt F .bf16)) := by
    rw [groups_eq, List.map_ofFn]; rfl
  refine (congrFun (concat_congr e concatenates_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x7168_d1 (by
    rw [← e]; exact concatenates_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x7168_d1)) (ix2 r d)).trans ?_
  refine concatenate_ofFn_apply (t := S16x7168) (s₁ := S16x128) (1 : Fin 2) (fun k => xpiece X0 XQ i h b k) _ rfl 128 rfl (ix2 r d) ⟨d.val / 128, by omega⟩ rfl
    (ix2 r ⟨d.val % 128, by omega⟩) rfl ?_
  intro b hb
  match b with
  | ⟨0, _⟩ => rfl
  | ⟨1, _⟩ => exact absurd rfl hb

end Generic

end Cert.KernelIdeal.Hand
-- ==== Proof.KId.lean ====
module

public import proofs.«01_k».proof.Proof.KIdx

@[expose] public section

set_option maxRecDepth 65536
set_option maxHeartbeats 2000000

noncomputable section

namespace Cert.KernelIdeal.Hand

open Idealize.ShloMosaic Cert.Scale
open Cert.KernelIdeal.Facts Cert.KernelIdeal.Gen

/-! # One grid point over the reals -/

section Input

variable (X1 : Vec Ideal S16x7168 .bf16) (X : Fin 16 → Fin 7168 → EReal) (hX : ∀ r d, X1 (ix2 r d) = X r d)
include hX

/-- Group `k` of the input, element by element. -/
theorem xg_apply (k : Fin 56) (r : Fin 16) (l : Fin 128) : xg X1 k (ix2 r l) = X r ⟨k.val * 128 + l.val, by omega⟩ := by
  unfold xg
  pointwise
  rw [hX]
  congr 1
  apply Fin.ext; simp only; omega

/-- The scale quotient of group `k` of the input. -/
theorem xg_ymax (k : Fin 56) (r : Fin 16) : ymax (xg X1 k) (ix2 r 0) = xy X r k := by
  rw [ymax_apply]
  simp only [xg_apply X1 X hX]
  rfl

/-- The input's codes, as the first point leaves them. -/
theorem xcOut_apply (r : Fin 16) (d : Fin 7168) : xcOut X1 (ix2 r d) = xc X r d := by
  unfold xcOut
  rw [canon_groups]
  unfold codesOf
  rw [codesOf_apply, xg_ymax X1 X hX, xg_apply X1 X hX]
  have e : (⟨d.val / 128 * 128 + d.val % 128, by omega⟩ : Fin 7168) = d := Fin.ext (by simp only; omega)
  simp only [e]
  rfl

/-- The decoded input, as the first point leaves it. -/
theorem xqOut_apply (r : Fin 16) (d : Fin 7168) : xqOut X1 (ix2 r d) = xq X r d := by
  unfold xqOut
  rw [canon_groups, decoded_apply, xg_ymax X1 X hX, xg_apply X1 X hX]
  have e : (⟨d.val / 128 * 128 + d.val % 128, by omega⟩ : Fin 7168) = d := Fin.ext (by simp only; omega)
  simp only [e]
  rfl

/-- The selects that collect the scales, read in row `r`. -/
theorem xsAcc_foldl (L : List (Fin 56)) (acc : FVec Ideal S16x56 .f32) (r : Fin 16) (g : Fin 56) :
    (L.foldl (fun acc k => select (cmpi .eq (iota .tc S16x56 32 [1] iota_S16x56_d1_w32) (broadcast S16x56 (BitVec.ofNat 32 k.val)))
      (broadcastTo S16x56 (shapeCast S16x1 (scaleOf (ymax (xg X1 k))) shapeCasts_S16x1_S16x1) broadcasts_S16x1_S16x56) acc) acc) (ix2 r g)
      = if g ∈ L then xs X r g else acc (ix2 r g) := by
  have step : ∀ (k : Fin 56) (acc : FVec Ideal S16x56 .f32),
      (select (cmpi .eq (iota .tc S16x56 32 [1] iota_S16x56_d1_w32) (broadcast S16x56 (BitVec.ofNat 32 k.val)))
        (broadcastTo S16x56 (shapeCast S16x1 (scaleOf (ymax (xg X1 k))) shapeCasts_S16x1_S16x1) broadcasts_S16x1_S16x56) acc) (ix2 r g)
        = if g = k then xs X r k else acc (ix2 r g) := by
    intro k acc
    unfold scaleOf
    pointwise
    rw [scaleOf_apply, xg_ymax X1 X hX]
    have e : IntOp.cmpi .eq (BitVec.ofNat 32 g.val) (BitVec.ofNat 32 k.val) = BitVec.ofBool (decide (g = k)) := by
      show BitVec.ofBool (BitVec.ofNat 32 g.val == BitVec.ofNat 32 k.val) = _
      congr 1
      rw [Bool.eq_iff_iff]
      simp only [beq_iff_eq, decide_eq_true_eq]
      constructor
      · intro h
        have := congrArg BitVec.toNat h
        simp only [BitVec.toNat_ofNat] at this
        apply Fin.ext
        omega
      · intro h; rw [h]
    rw [e]
    by_cases h : g = k
    · simp [h, Scalar.select, xs]
    · simp [h, Scalar.select]
  induction L generalizing acc with
  | nil => simp
  | cons k L ih =>
    rw [List.foldl_cons, ih, step]
    by_cases h : g ∈ L
    · simp [h]
    · by_cases h2 : g = k
      · subst h2; simp [h]
      · simp [h, h2]

/-- The input's scales, as the first point leaves them. -/
theorem xsOut_apply (r : Fin 16) (z : Fin 1) (g : Fin 56) : xsOut X1 (ix3 r z g) = xs X r g := by
  unfold xsOut
  pointwise
  unfold xsAcc
  rw [xsAcc_foldl X1 X hX]
  have : g ∈ groups := by rw [groups_eq, List.mem_ofFn]; exact ⟨g, rfl⟩
  rw [if_pos this]

end Input

section Block

variable (X0 : Vec Ideal S2x56x192 .f32) (XQ : Vec Ideal S16x7168 .bf16) (i : grid0.Coords)
  (X : Fin 16 → Fin 7168 → EReal) (S : Fin 2 → Fin 192 → Fin 56 → EReal) (W : Fin 2 → Fin 24576 → Fin 7168 → EReal)
  (hQ : ∀ r d, XQ (ix2 r d) = xq X r d) (hS : ∀ h k n, X0 (ix3 h k n) = S h n k)

include hQ hS in
/-- The scaled input of a half tile: the decoded input times the weight scale of its block. -/
theorem xrow_ideal (h b : Fin 2) (r : Fin 16) (d : Fin 7168) (hn : colOf i b < 192) :
    xrow X0 XQ i h b (ix2 r d) = xq X r d * S h ⟨colOf i b, hn⟩ ⟨d.val / 128, by omega⟩ := by
  rw [xrow_apply]
  unfold xpiece
  pointwise [k0_pay438]
  rw [wsv_apply _ _ _ _ _ hn, hS]
  rw [hQ]
  have e : (⟨128 * (d.val / 128) + d.val % 128, by omega⟩ : Fin 7168) = d := Fin.ext (by simp only; omega)
  simp only [e]

/-- A half tile of the product: the sum over the contracted axis of the scaled input times the weights. -/
theorem prod_apply (Wt : Vec Ideal S1x1x256x7168 .fp8e4m3) (h b : Fin 2) (r : Fin 16) (l : Fin 128) :
    blk (prod X0 XQ Wt i h) b (ix2 r l)
      = ∑ d : Fin 7168, xrow X0 XQ i h b (ix2 r d) * Wt (ix4 0 0 ⟨b.val * 128 + l.val, by omega⟩ d) := by
  match b with
  | 0 =>
    show blk _ 0 _ = _
    unfold blk
    pointwise [prod]
  | 1 =>
    show blk _ 1 _ = _
    unfold blk
    pointwise [prod]

end Block

end Cert.KernelIdeal.Hand
-- ==== Proof.KAct.lean ====
module

public import proofs.«01_k».proof.Proof.KId

@[expose] public section

set_option maxRecDepth 65536
set_option maxHeartbeats 400000

noncomputable section

namespace Cert.KernelIdeal.Hand

open Idealize.ShloMosaic Cert.Scale
open Cert.KernelIdeal.Facts Cert.KernelIdeal.Gen

/-! # The activation tile of a grid point over the reals -/

/-- The grid has 96 points. -/
theorem coord_lt (i : grid0.Coords) : (i 0).val < 96 := (i 0).isLt

/-- Both half tiles' columns of scales exist. -/
theorem colOf_lt (i : grid0.Coords) (b : Fin 2) : colOf i b < 192 := by
  rw [colOf_eq]; have := coord_lt i; omega

variable (X0 : Vec Ideal S2x56x192 .f32) (XQ : Vec Ideal S16x7168 .bf16) (W0 W1 : Vec Ideal S1x1x256x7168 .fp8e4m3) (i : grid0.Coords)
  (X : Fin 16 → Fin 7168 → EReal) (S : Fin 2 → Fin 192 → Fin 56 → EReal) (W : Fin 2 → Fin 24576 → Fin 7168 → EReal)

/-- A product of a grid point is the projection at the tile's columns. -/
theorem prod_ideal (Wt : Vec Ideal S1x1x256x7168 .fp8e4m3) (h : Fin 2)
    (hQ : ∀ r d, XQ (ix2 r d) = xq X r d) (hS : ∀ h k n, X0 (ix3 h k n) = S h n k)
    (hW : ∀ (q : Fin 256) d (hn : (i 0).val * 256 + q.val < 24576), Wt (ix4 0 0 q d) = W h ⟨(i 0).val * 256 + q.val, hn⟩ d)
    (b : Fin 2) (r : Fin 16) (l : Fin 128) (n : Fin 24576) (hn : n.val = (i 0).val * 256 + (b.val * 128 + l.val)) :
    blk (prod X0 XQ Wt i h) b (ix2 r l) = gu X S W h r n := by
  have hi := coord_lt i
  rw [prod_apply]
  unfold gu
  refine Finset.sum_congr rfl fun d _ => ?_
  rw [xrow_ideal X0 XQ i X S hQ hS h b r d (colOf_lt i b), hW _ _ (by simp only; omega)]
  have e1 : (⟨colOf i b, colOf_lt i b⟩ : Fin 192) = ⟨n.val / 128, by omega⟩ := by
    apply Fin.ext; simp only; rw [colOf_eq]; omega
  have e2 : (⟨(i 0).val * 256 + (b.val * 128 + l.val), by omega⟩ : Fin 24576) = n := Fin.ext hn.symm
  rw [e1]
  simp only [e2]

section Tile

variable
    (hQ : ∀ r d, XQ (ix2 r d) = xq X r d) (hS : ∀ h k n, X0 (ix3 h k n) = S h n k)
    (hW0 : ∀ (q : Fin 256) d (hn : (i 0).val * 256 + q.val < 24576), W0 (ix4 0 0 q d) = W 0 ⟨(i 0).val * 256 + q.val, hn⟩ d)
    (hW1 : ∀ (q : Fin 256) d (hn : (i 0).val * 256 + q.val < 24576), W1 (ix4 0 0 q d) = W 1 ⟨(i 0).val * 256 + q.val, hn⟩ d)

include hQ hS hW0 hW1

/-- The activation of a half tile. -/
theorem actv_ideal (b : Fin 2) (r : Fin 16) (l : Fin 128) (n : Fin 24576) (hn : n.val = (i 0).val * 256 + (b.val * 128 + l.val)) :
    actv X0 XQ W0 W1 i b (ix2 r l) = act X S W r n := by
  have e0 := prod_ideal X0 XQ i X S W W0 0 hQ hS hW0 b r l n hn
  have e1 := prod_ideal X0 XQ i X S W W1 1 hQ hS hW1 b r l n hn
  show blk (prod X0 XQ W0 i 0) b (ix2 r l) * Ideal.logistic (blk (prod X0 XQ W0 i 0) b (ix2 r l)) * blk (prod X0 XQ W1 i 1) b (ix2 r l) = _
  rw [e0, e1]
  rfl

/-- The scale quotient of a half tile. -/
theorem actv_ymax (b : Fin 2) (r : Fin 16) (g : Fin 192) (hg : g.val = 2 * (i 0).val + b.val) :
    ymax (actv X0 XQ W0 W1 i b) (ix2 r 0) = ay X S W r g := by
  rw [ymax_apply]
  unfold ay
  congr 1
  funext x
  exact actv_ideal X0 XQ W0 W1 i X S W hQ hS hW0 hW1 b r x _ (by simp only; omega)

/-- The activation tile. -/
theorem actOut_ideal (r : Fin 16) (q : Fin 256) (n : Fin 24576) (hn : n.val = (i 0).val * 256 + q.val) :
    actOut X0 XQ W0 W1 i (ix2 r q) = act X S W r n := by
  unfold actOut
  refine (canon_halves (F := Ideal) (e := .bf16) (fun b => (truncf .bf16 (actv X0 XQ W0 W1 i b) bitsLt_bf16_f32 : FVec Ideal S16x128 .bf16)) r q).trans ?_
  exact actv_ideal X0 XQ W0 W1 i X S W hQ hS hW0 hW1 _ r _ n (by simp only; omega)

/-- The tile of codes. -/
theorem acOut_ideal (r : Fin 16) (q : Fin 256) (n : Fin 24576) (hn : n.val = (i 0).val * 256 + q.val) :
    acOut X0 XQ W0 W1 i (ix2 r q) = ac X S W r n := by
  have hi := coord_lt i
  unfold acOut
  refine (canon_halves (F := Ideal) (e := .fp8e4m3) (fun b => codesOf (actv X0 XQ W0 W1 i b) (ymax (actv X0 XQ W0 W1 i b))) r q).trans ?_
  unfold codesOf
  rw [codesOf_apply, actv_ymax X0 XQ W0 W1 i X S W hQ hS hW0 hW1 _ r ⟨n.val / 128, by omega⟩ (by simp only; omega),
    actv_ideal X0 XQ W0 W1 i X S W hQ hS hW0 hW1 _ r _ n (by simp only; omega)]
  rfl

/-- The scale of a half tile, spread over the row of scales. -/
theorem asRow_ideal (b : Fin 2) (r : Fin 16) (p g : Fin 192) (hg : g.val = 2 * (i 0).val + b.val) :
    (broadcastTo S16x192 (shapeCast S16x1 (scaleOf (ymax (actv X0 XQ W0 W1 i b))) shapeCasts_S16x1_S16x1) broadcasts_S16x1_S16x192
      : FVec Ideal S16x192 .f32) (ix2 r p) = asc X S W r g := by
  unfold scaleOf
  pointwise
  rw [scaleOf_apply, actv_ymax X0 XQ W0 W1 i X S W hQ hS hW0 hW1 b r g hg]
  rfl

end Tile

end Cert.KernelIdeal.Hand
-- ==== Proof.KBlk.lean ====
module

public import proofs.«01_k».proof.Proof.Frame
public import proofs.«01_k».proof.Proof.KAct
public import Idealize.ShloMosaic.Lib.Pipeline.ValueKit
public import Idealize.ShloMosaic.Lib.Pipeline.ArrRel

@[expose] public section

set_option maxRecDepth 16384
set_option maxHeartbeats 400000

noncomputable section

namespace Cert.KernelIdeal.Hand

open Idealize.ShloMosaic Idealize.ShloMosaic.TcCoe Idealize.SL.Sem Cert.Scale
open Cert.KernelIdeal.Facts Cert.KernelIdeal.Gen

/-! # The blocks a grid point reads, as the arguments' values -/

variable (m : (ℓ : Loc nD τ sig) → Buf (Elt Ideal) ℓ)

/-- The input as launched, by its coordinates. -/
def KX (c : Dev nD) (r : Fin 16) (d : Fin 7168) : EReal := m ((c : Thread nD τ).loc main_arg0) (ix3 r 0 d)
/-- The weights as launched. -/
def KW (c : Dev nD) (h : Fin 2) (n : Fin 24576) (d : Fin 7168) : EReal := m ((c : Thread nD τ).loc main_arg1) (ix3 h n d)
/-- The weight scales as launched. -/
def KS (c : Dev nD) (h : Fin 2) (n : Fin 192) (g : Fin 56) : EReal := m ((c : Thread nD τ).loc main_arg2) (ix3 h n g)

/-- The window of weight scales is the whole array at every point. -/
theorem kidx0 : ∀ t : Fin cfg0.N, win0_0.index t = ![0, 0, 0] := (by decide +kernel : ∀ t : Fin grid0.N, win0_0.index t = ![0, 0, 0])
/-- The window of the input is the whole array at every point. -/
theorem kidx1 : ∀ t : Fin cfg0.N, win0_1.index t = ![0, 0] := (by decide +kernel : ∀ t : Fin grid0.N, win0_1.index t = ![0, 0])

/-- The block of the input. -/
theorem kblk_x (c : Dev nD) (t : Fin cfg0.N) (r : Fin 16) (d : Fin 7168) : (iblk m c 1 t : Vec Ideal S16x7168 .bf16) (ix2 r d) = KX m c r d := by
  unfold KX
  blk_ext! [iblk, V, kidx1 t]

/-- The block of the weight scales, transposed by the host. -/
theorem kblk_s (c : Dev nD) (t : Fin cfg0.N) (h : Fin 2) (k : Fin 56) (n : Fin 192) :
    (iblk m c 0 t : Vec Ideal S2x56x192 .f32) (ix3 h k n) = KS m c h n k := by
  unfold KS
  blk_ext! [iblk, V, kidx0 t]

/-- The slot of the ring, at its place in the ring. -/
theorem slot_emb (s : Fin 4) (h : Fin 2) (q : Fin 256) (d : Fin 7168) :
    (rslot0_0 s).view.emb (ix3 h q d) = scM0_2.view.emb (ix4 s h q d) := by
  show scM0_2.view.emb ((Rect.unit (s := S4x2x256x7168) ![s.val, 0, 0, 0] S1x2x256x7168.size (inb_slot0_0 s)).emb
    (Shape.reshapeEquiv _ (ix3 h q d))) = _
  congr 1
  simp only [pointwise]
  funext a; apply Fin.ext
  match a with
  | 0 => show s.val + 1 * 0 = s.val; omega
  | 1 => show 0 + 1 * h.val = h.val; omega
  | 2 => show 0 + 1 * q.val = q.val; omega
  | 3 => show 0 + 1 * d.val = d.val; omega

/-- A ring slot read through the whole ring. -/
theorem ring_read (s : Fin 4) (f : (scM0_2 : Memref sig .tc .vmem S4x2x256x7168 .fp8e4m3).view.ty.Contents (Elt Ideal)) (h : Fin 2) (q : Fin 256) (d : Fin 7168) :
    View.read (Elt Ideal) scM0_2.view f (ix4 s h q d) = View.read (Elt Ideal) (rslot0_0 s).view f (ix3 h q d) := by
  exact (congrArg f (slot_emb s h q d)).symm

/-- What a slot written whole holds, read through the ring. -/
theorem landed_read (s : Fin 4) (f : (rslot0_0 s).view.ty.Contents (Elt Ideal)) (P : S2x256x7168.Idx → Elt Ideal .fp8e4m3)
    (h : Fin 2) (q : Fin 256) (d : Fin 7168) :
    View.read (Elt Ideal) scM0_2.view ((rslot0_0 s).view.writes (Elt Ideal) f [⟨Rect.whole S2x256x7168, P⟩]) (ix4 s h q d) = P (ix3 h q d) := by
  have e := View.read_writes_cons_emb (Val := Elt Ideal) (rslot0_0 s).view f (Rect.whole S2x256x7168) P [] (ix3 h q d)
  rw [Rect.emb_whole_apply] at e
  exact (ring_read s _ h q d).trans e

/-- The block of the weights that a transfer reads, at its place in the weights. -/
theorem src_emb (b : Fin 96) (h : Fin 2) (q : Fin 256) (d : Fin 7168) (hn : b.val * 256 + q.val < 24576) :
    (srcB0_0 b).view.emb (ix3 h q d) = hbM0_0.view.emb (ix3 h ⟨b.val * 256 + q.val, hn⟩ d) := by
  show hbM0_0.view.emb ((Rect.unit (s := S2x24576x7168) ![0, 256 * b.val, 0] S2x256x7168.size (inb_src0_0 b)).emb (ix3 h q d)) = _
  congr 1
  funext a; apply Fin.ext
  match a with
  | 0 => show 0 + 1 * h.val = h.val; omega
  | 1 => show 256 * b.val + 1 * q.val = b.val * 256 + q.val; omega
  | 2 => show 0 + 1 * d.val = d.val; omega

/-- The tile's weights of projection 0, read off the transfer's source. -/
theorem wload0_gen (c : Dev nD) (t : Fin cfg0.N) (fh0 : HbBuf0 (F := Ideal) c hbM0_0) (q : Fin 256) (d : Fin 7168) :
    wload0 c t fh0 (ix4 0 0 q d) = View.read (Elt Ideal) (srcB0_0 (Ring.bk 96 t.val)).view fh0 (ix3 0 q d) := by
  have e : (Rect.unit (s := S4x2x256x7168) (k0_off63 (grid0.coords t)) S1x1x256x7168.size (k0_off63_inb (grid0.coords t))).toLoadRect.idx (ix4 0 0 q d)
      = ix4 (Ring.sl 4 t.val) 0 q d := by
    have o := coff0_0_16 t
    funext a; apply Fin.ext
    match a with
    | 0 => show k0_off63 (grid0.coords t) 0 + 1 * 0 = (Ring.sl 4 t.val).val; rw [o]; rfl
    | 1 => show k0_off63 (grid0.coords t) 1 + 1 * 0 = 0; rw [o]; rfl
    | 2 => show k0_off63 (grid0.coords t) 2 + 1 * q.val = q.val; rw [o]; show 0 + 1 * q.val = q.val; omega
    | 3 => show k0_off63 (grid0.coords t) 3 + 1 * d.val = d.val; rw [o]; show 0 + 1 * d.val = d.val; omega
  exact (congrArg _ e).trans (landed_read (Ring.sl 4 t.val) _ _ 0 q d)

/-- The tile's weights of projection 1, read off the transfer's source. -/
theorem wload1_gen (c : Dev nD) (t : Fin cfg0.N) (fh0 : HbBuf0 (F := Ideal) c hbM0_0) (q : Fin 256) (d : Fin 7168) :
    wload1 c t fh0 (ix4 0 0 q d) = View.read (Elt Ideal) (srcB0_0 (Ring.bk 96 t.val)).view fh0 (ix3 1 q d) := by
  have e : (Rect.unit (s := S4x2x256x7168) (k0_off120 (grid0.coords t)) S1x1x256x7168.size (k0_off120_inb (grid0.coords t))).toLoadRect.idx (ix4 0 0 q d)
      = ix4 (Ring.sl 4 t.val) 1 q d := by
    have o := coff0_0_17 t
    funext a; apply Fin.ext
    match a with
    | 0 => show k0_off120 (grid0.coords t) 0 + 1 * 0 = (Ring.sl 4 t.val).val; rw [o]; rfl
    | 1 => show k0_off120 (grid0.coords t) 1 + 1 * 0 = 1; rw [o]; rfl
    | 2 => show k0_off120 (grid0.coords t) 2 + 1 * q.val = q.val; rw [o]; show 0 + 1 * q.val = q.val; omega
    | 3 => show k0_off120 (grid0.coords t) 3 + 1 * d.val = d.val; rw [o]; show 0 + 1 * d.val = d.val; omega
  exact (congrArg _ e).trans (landed_read (Ring.sl 4 t.val) _ _ 1 q d)

/-- The block a point waits for is its own. -/
theorem bk_val (t : Fin cfg0.N) : (Ring.bk 96 t.val).val = t.val :=
  Nat.mod_eq_of_lt (lt_of_lt_of_eq t.isLt (by rw [show cfg0.N = 96 from N_0]))

/-- What a transfer's payload reads of the weights. -/
theorem src_read (c : Dev nD) (fh0 : HbBuf0 (F := Ideal) c hbM0_0) (b : Fin 96) (n : ℕ) (hb : b.val = n) (h : Fin 2) (q : Fin 256) (d : Fin 7168)
    (hn : n * 256 + q.val < 24576) :
    View.read (Elt Ideal) (srcB0_0 b).view fh0 (ix3 h q d) = View.read (Elt Ideal) hbM0_0.view fh0 (ix3 h ⟨n * 256 + q.val, hn⟩ d) := by
  subst hb
  exact congrArg fh0 (src_emb b h q d hn)

/-- The weights' buffer before the kernel is the argument. -/
theorem arg_read (c : Dev nD) (h : Fin 2) (n : Fin 24576) (d : Fin 7168) :
    View.read (Elt Ideal) hbM0_0.view (V m c main_arg1) (ix3 h n d) = KW m c h n d :=
  congrFun (V_main_arg1 m c) (ix3 h n d)

/-- The tile's weights of projection 0. -/
theorem wload0_apply (c : Dev nD) (t : Fin cfg0.N) (q : Fin 256) (d : Fin 7168) (hn : t.val * 256 + q.val < 24576) :
    wload0 c t (V m c main_arg1) (ix4 0 0 q d) = KW m c 0 ⟨t.val * 256 + q.val, hn⟩ d :=
  ((wload0_gen c t _ q d).trans (src_read c _ _ t.val (bk_val t) 0 q d hn)).trans (arg_read m c 0 _ d)

/-- The tile's weights of projection 1. -/
theorem wload1_apply (c : Dev nD) (t : Fin cfg0.N) (q : Fin 256) (d : Fin 7168) (hn : t.val * 256 + q.val < 24576) :
    wload1 c t (V m c main_arg1) (ix4 0 0 q d) = KW m c 1 ⟨t.val * 256 + q.val, hn⟩ d :=
  ((wload1_gen c t _ q d).trans (src_read c _ _ t.val (bk_val t) 1 q d hn)).trans (arg_read m c 1 _ d)

end Cert.KernelIdeal.Hand
-- ==== Proof.KRun.lean ====
module

public import proofs.«01_k».proof.Proof.KBlk

@[expose] public section

set_option maxRecDepth 16384
set_option maxHeartbeats 400000

noncomputable section

namespace Cert.KernelIdeal.Hand

open Idealize.ShloMosaic Idealize.ShloMosaic.TcCoe Idealize.SL.Sem Cert.Scale
open Cert.KernelIdeal.Facts Cert.KernelIdeal.Gen

/-! # The kernel's result arrays as functions of its arguments -/

variable (m : (ℓ : Loc nD τ sig) → Buf (Elt Ideal) ℓ)

/-- The decoded input that every point reads. -/
theorem xqM_apply (c : Dev nD) (r : Fin 16) (d : Fin 7168) : xqM m c (ix2 r d) = xq (KX m c) r d :=
  xqOut_apply (iblk m c 1 t0) (KX m c) (fun r d => kblk_x m c t0 r d) r d

/-- A point's number bounds its columns. -/
theorem coord_eq (t : Fin cfg0.N) : ((grid0.coords t) 0).val = t.val := coord_val t

/-- The tile's weights of projection 0, by the point's coordinate. -/
theorem hW0 (c : Dev nD) (t : Fin cfg0.N) (q : Fin 256) (d : Fin 7168) (hn : ((grid0.coords t) 0).val * 256 + q.val < 24576) :
    wload0 c t (V m c main_arg1) (ix4 0 0 q d) = KW m c 0 ⟨((grid0.coords t) 0).val * 256 + q.val, hn⟩ d := by
  refine (wload0_apply m c t q d (by rw [coord_eq] at hn; exact hn)).trans ?_
  congr 1
  apply Fin.ext; simp only [coord_eq]

/-- The tile's weights of projection 1, by the point's coordinate. -/
theorem hW1 (c : Dev nD) (t : Fin cfg0.N) (q : Fin 256) (d : Fin 7168) (hn : ((grid0.coords t) 0).val * 256 + q.val < 24576) :
    wload1 c t (V m c main_arg1) (ix4 0 0 q d) = KW m c 1 ⟨((grid0.coords t) 0).val * 256 + q.val, hn⟩ d := by
  refine (wload1_apply m c t q d (by rw [coord_eq] at hn; exact hn)).trans ?_
  congr 1
  apply Fin.ext; simp only [coord_eq]

/-- The activation tile of a point. -/
theorem actOut_val (c : Dev nD) (t : Fin cfg0.N) (r : Fin 16) (q : Fin 256) (n : Fin 24576) (hn : n.val = t.val * 256 + q.val) :
    actOut (iblk m c 0 t) (xqM m c) (wload0 c t (V m c main_arg1)) (wload1 c t (V m c main_arg1)) (grid0.coords t) (ix2 r q)
      = act (KX m c) (KS m c) (KW m c) r n :=
  actOut_ideal (iblk m c 0 t) (xqM m c) (wload0 c t (V m c main_arg1)) (wload1 c t (V m c main_arg1)) (grid0.coords t) (KX m c) (KS m c) (KW m c)
    (xqM_apply m c) (kblk_s m c t) (hW0 m c t) (hW1 m c t) r q n (by rw [coord_eq]; exact hn)

/-- The codes of a point. -/
theorem acOut_val (c : Dev nD) (t : Fin cfg0.N) (r : Fin 16) (q : Fin 256) (n : Fin 24576) (hn : n.val = t.val * 256 + q.val) :
    acOut (iblk m c 0 t) (xqM m c) (wload0 c t (V m c main_arg1)) (wload1 c t (V m c main_arg1)) (grid0.coords t) (ix2 r q)
      = ac (KX m c) (KS m c) (KW m c) r n :=
  acOut_ideal (iblk m c 0 t) (xqM m c) (wload0 c t (V m c main_arg1)) (wload1 c t (V m c main_arg1)) (grid0.coords t) (KX m c) (KS m c) (KW m c)
    (xqM_apply m c) (kblk_s m c t) (hW0 m c t) (hW1 m c t) r q n (by rw [coord_eq]; exact hn)

/-- The scales of a point. -/
theorem scaleRow_val (c : Dev nD) (t : Fin cfg0.N) (b : Fin 2) (r : Fin 16) (p : Fin 192) (hp : p.val = 2 * t.val + b.val) :
    scaleRow m c t b (ix2 r p) = asc (KX m c) (KS m c) (KW m c) r p :=
  asRow_ideal (iblk m c 0 t) (xqM m c) (wload0 c t (V m c main_arg1)) (wload1 c t (V m c main_arg1)) (grid0.coords t) (KX m c) (KS m c) (KW m c)
    (xqM_apply m c) (kblk_s m c t) (hW0 m c t) (hW1 m c t) b r p p (by rw [coord_eq]; exact hp)

/-- The full row of scales. -/
theorem scr_val (c : Dev nD) (Z : Vec Ideal S16x192 .f32) (h : ScrAt m c 96 Z) (r : Fin 16) (p : Fin 192) :
    Z (ix2 r p) = asc (KX m c) (KS m c) (KW m c) r p := by
  have hN : cfg0.N = 96 := N_0
  have ht : p.val / 2 < cfg0.N := by rw [hN]; omega
  refine (h ⟨p.val / 2, ht⟩ ⟨p.val % 2, by omega⟩ (ix2 r p) (by simp only; omega) ?_).trans
    (scaleRow_val m c _ _ r p ?_)
  · show p.val = 2 * (p.val / 2) + p.val % 2; omega
  · show p.val = 2 * (p.val / 2) + p.val % 2; omega

/-- The activation tile of point `t` is column tile `t`. -/
theorem kidx2 : ∀ t : Fin cfg0.N, win0_2.index t = ![0, t.val] := (by decide +kernel : ∀ t : Fin grid0.N, win0_2.index t = ![0, t.val])
/-- The tile of codes of point `t` is column tile `t`. -/
theorem kidx5 : ∀ t : Fin cfg0.N, win0_5.index t = ![0, t.val] := (by decide +kernel : ∀ t : Fin grid0.N, win0_5.index t = ![0, t.val])

/-- The last grid point. -/
def tl : Fin cfg0.N := ⟨95, by rw [show cfg0.N = 96 from N_0]; decide⟩

section Arrays

variable (c : Dev nD) (after : (w' : Fin cfg0.W) → Fin cfg0.N → (cfg0.win w').block.Idx → Elt Ideal (cfg0.win w').elt)
  (hL : ∀ (w : Fin cfg0.W) (u : Fin cfg0.N), (cfg0.win w).flush u = true → (rdats m c).Leaves w u (after w u))

include hL

/-- The array of result 1. -/
theorem karr2 : ((rdats m c).withAfter after).arrAt 2 cfg0.N
    = fun j : S16x24576.Idx => act (KX m c) (KS m c) (KW m c) (j 0) (j 1) := by
  refine Pipeline.Dat.arrAt_eq_of_covers _ 2 _ (by decide +kernel) fun t hf y => ?_
  have e : after 2 t = _ := (dats m 0 c).toRRel_leaves rfl (hL 2 t hf)
  blk_simp
  obtain ⟨y0, y1, rfl⟩ : ∃ y0 y1, y = (ix2 y0 y1 : S16x256.Idx) := ⟨y 0, y 1, eq_ix2 y⟩
  have e0 : (win0_2.blk t).view.emb (ix2 y0 y1 : S16x256.Idx) 0 = y0 := by
    apply Fin.ext
    have := congrFun (kidx2 t) 0
    show win0_2.index t 0 * 16 + 1 * y0.val = y0.val
    rw [this]
    show 0 * 16 + 1 * y0.val = y0.val
    omega
  have e1 : ((win0_2.blk t).view.emb (ix2 y0 y1 : S16x256.Idx) 1).val = t.val * 256 + y1.val := by
    have := congrFun (kidx2 t) 1
    show win0_2.index t 1 * 256 + 1 * y1.val = _
    rw [this]
    show t.val * 256 + 1 * y1.val = _
    omega
  rw [e0]
  exact (congrFun e (ix2 y0 y1 : S16x256.Idx)).trans (actOut_val m c t y0 y1 _ e1)

/-- The array of result 2. -/
theorem karr3 : ((rdats m c).withAfter after).arrAt 3 cfg0.N
    = fun j : S16x7168.Idx => xc (KX m c) (j 0) (j 1) := by
  refine Pipeline.Dat.arrAt_eq_of_after_last _ 3 tl (by decide +kernel) _ fun j => ?_
  have e : after 3 tl = _ := (dats m 0 c).toRRel_leaves rfl (hL 3 tl (by decide +kernel))
  blk_simp
  obtain ⟨j0, j1, rfl⟩ : ∃ j0 j1, j = (ix2 j0 j1 : S16x7168.Idx) := ⟨j 0, j 1, eq_ix2 j⟩
  exact (congrFun e (ix2 j0 j1 : S16x7168.Idx)).trans (xcOut_apply (iblk m c 1 t0) (KX m c) (fun r d => kblk_x m c t0 r d) j0 j1)

/-- The array of result 3. -/
theorem karr4 : ((rdats m c).withAfter after).arrAt 4 cfg0.N
    = fun j : S16x1x56.Idx => xs (KX m c) (j 0) (j 2) := by
  refine Pipeline.Dat.arrAt_eq_of_after_last _ 4 tl (by decide +kernel) _ fun j => ?_
  have e : after 4 tl = _ := (dats m 0 c).toRRel_leaves rfl (hL 4 tl (by decide +kernel))
  blk_simp
  obtain ⟨j0, j1, j2, rfl⟩ : ∃ j0 j1 j2, j = (ix3 j0 j1 j2 : S16x1x56.Idx) := ⟨j 0, j 1, j 2, eq_ix3 j⟩
  exact (congrFun e (ix3 j0 j1 j2 : S16x1x56.Idx)).trans (xsOut_apply (iblk m c 1 t0) (KX m c) (fun r d => kblk_x m c t0 r d) j0 j1 j2)

/-- The array of result 4. -/
theorem karr5 : ((rdats m c).withAfter after).arrAt 5 cfg0.N
    = fun j : S16x24576.Idx => ac (KX m c) (KS m c) (KW m c) (j 0) (j 1) := by
  refine Pipeline.Dat.arrAt_eq_of_covers _ 5 _ (by decide +kernel) fun t hf y => ?_
  have e : after 5 t = _ := (dats m 0 c).toRRel_leaves rfl (hL 5 t hf)
  blk_simp
  obtain ⟨y0, y1, rfl⟩ : ∃ y0 y1, y = (ix2 y0 y1 : S16x256.Idx) := ⟨y 0, y 1, eq_ix2 y⟩
  have e0 : (win0_5.blk t).view.emb (ix2 y0 y1 : S16x256.Idx) 0 = y0 := by
    apply Fin.ext
    have := congrFun (kidx5 t) 0
    show win0_5.index t 0 * 16 + 1 * y0.val = y0.val
    rw [this]
    show 0 * 16 + 1 * y0.val = y0.val
    omega
  have e1 : ((win0_5.blk t).view.emb (ix2 y0 y1 : S16x256.Idx) 1).val = t.val * 256 + y1.val := by
    have := congrFun (kidx5 t) 1
    show win0_5.index t 1 * 256 + 1 * y1.val = _
    rw [this]
    show t.val * 256 + 1 * y1.val = _
    omega
  rw [e0]
  exact (congrFun e (ix2 y0 y1 : S16x256.Idx)).trans (acOut_val m c t y0 y1 _ e1)

/-- The array of result 5. -/
theorem karr6 : ((rdats m c).withAfter after).arrAt 6 cfg0.N
    = fun j : S16x1x192.Idx => asc (KX m c) (KS m c) (KW m c) (j 0) (j 2) := by
  refine Pipeline.Dat.arrAt_eq_of_after_last _ 6 tl (by decide +kernel) _ fun j => ?_
  have h6 : Rl m c 6 tl (after 6 tl) := (dats m 0 c).toRRel_leaves rfl (hL 6 tl (by decide +kernel))
  obtain ⟨Z, hZ, e⟩ := h6 rfl
  blk_simp
  obtain ⟨j0, j1, j2, rfl⟩ : ∃ j0 j1 j2, j = (ix3 j0 j1 j2 : S16x1x192.Idx) := ⟨j 0, j 1, j 2, eq_ix3 j⟩
  have e2 : k0_pay1 (F := Ideal) Z (ix3 j0 j1 j2) = Z (ix2 j0 j2) := by pointwise [k0_pay1]
  exact ((congrFun e (ix3 j0 j1 j2 : S16x1x192.Idx)).trans e2).trans (scr_val m c Z hZ j0 j2)

end Arrays

/-- The run of the kernel: every result array, element by element, as a function of the arguments, and the arguments unchanged. -/
theorem run_vals (ρ : Dev nD → PrngReg) : θ_run defs (onTc (τ := τ) (main (F := Ideal))) ⟨m, fun _ => 0, ρ⟩ (fun r => ∀ c : Dev nD,
      r.2.mem ((c.tc : Thread nD τ).loc main_v2_0) = (fun j : S16x24576.Idx => act (KX m c) (KS m c) (KW m c) (j 0) (j 1))
      ∧ r.2.mem ((c.tc : Thread nD τ).loc main_v2_1) = (fun j : S16x7168.Idx => xc (KX m c) (j 0) (j 1))
      ∧ r.2.mem ((c.tc : Thread nD τ).loc main_v2_2) = (fun j : S16x1x56.Idx => xs (KX m c) (j 0) (j 2))
      ∧ r.2.mem ((c.tc : Thread nD τ).loc main_v2_3) = (fun j : S16x24576.Idx => ac (KX m c) (KS m c) (KW m c) (j 0) (j 1))
      ∧ r.2.mem ((c.tc : Thread nD τ).loc main_v2_4) = (fun j : S16x1x192.Idx => asc (KX m c) (KS m c) (KW m c) (j 0) (j 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => by
    obtain ⟨after, hL, hA⟩ := Pipeline.RDat.FramePost.exists_exact h.1 c
    exact ⟨(hA 2).trans (karr2 m c after hL), (hA 3).trans (karr3 m c after hL), (hA 4).trans (karr4 m c after hL),
      (hA 5).trans (karr5 m c after hL), (hA 6).trans (karr6 m c after hL),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩) (run_main m ρ)

end Cert.KernelIdeal.Hand
-- ==== Proof.RVal.lean ====
module

public import proofs.«01_k».proof.Proof.Scale
public import proofs.«01_k».proof.Proof.Gen.ReferenceIdeal.Skeleton

@[expose] public section

set_option maxRecDepth 16384
set_option maxHeartbeats 2000000

noncomputable section

namespace Cert.ReferenceIdeal.Hand

open Idealize.ShloMosaic Cert.Scale
open Cert.ReferenceIdeal.Facts Cert.ReferenceIdeal.Gen
variable [Cert.ReferenceIdeal.Facts]

/-- The reference's scale as it is read at an index. -/
theorem ref_scale_read (f : Fin 128 → EReal) :
    (if
        Finset.fold max (Ideal.ofBits FTy.f32 4286578688#32) (fun x => FloatOps.absf (F := Ideal) (φ := .f32) (f x))
              Finset.univ *
            Ideal.ofBits FTy.f32 991054117#32 <
          Ideal.ofBits FTy.f32 8388608#32 then
      (1 : EReal)
    else
      Finset.fold min (Ideal.ofBits FTy.f32 2139095040#32)
        (fun x : Fin 246 =>
          if
              Finset.fold max (Ideal.ofBits FTy.f32 4286578688#32)
                    (fun x_1 => FloatOps.absf (F := Ideal) (φ := .f32) (f x_1)) Finset.univ *
                  Ideal.ofBits FTy.f32 991054117#32 <
                FloatOps.exp2 (F := Ideal) (φ := .f32) (FloatOps.sitofp FTy.f32 (BitVec.ofNat 32 x.val) - Ideal.ofBits FTy.f32 1123680256#32) then
            FloatOps.exp2 (F := Ideal) (φ := .f32) (FloatOps.sitofp FTy.f32 (BitVec.ofNat 32 x.val) - Ideal.ofBits FTy.f32 1123680256#32)
          else Ideal.ofBits FTy.f32 2071986176#32)
        Finset.univ) = sclOf (yOf f) := by
  have e : ∀ x : Fin 246, FloatOps.exp2 (F := Ideal) (φ := .f32) (FloatOps.sitofp FTy.f32 (BitVec.ofNat 32 x.val) - Ideal.ofBits FTy.f32 1123680256#32)
      = pw (x.val + 2) := by
    intro x
    have e2 : FloatOps.sitofp (F := Ideal) FTy.f32 (BitVec.ofNat 32 x.val) = (((x.val : ℕ) : ℝ) : EReal) := by
      show ((((BitVec.ofNat 32 x.val).toInt : ℤ) : ℝ) : EReal) = _
      rw [toInt_small _ (by omega)]
      norm_cast
    rw [e2]
    exact exp2_lane x.val
  simp only [e, ofBits_247, ofBits_1, ofBits_neg_inf, ofBits_pos_inf]
  exact ref_scale (yOf f)

variable (x : Vec Ideal S16x7168 .bf16) (s : Vec Ideal S2x192x56 .f32) (w : Vec Ideal S2x24576x7168 .fp8e4m3)

/-- The input by its coordinates. -/
def X (r : Fin 16) (d : Fin 7168) : EReal := x (ix2 r d)
/-- The weight scales by their coordinates. -/
def Sc (h : Fin 2) (n : Fin 192) (g : Fin 56) : EReal := s (ix3 h n g)
/-- The weights by their coordinates. -/
def W (h : Fin 2) (n : Fin 24576) (d : Fin 7168) : EReal := w (ix3 h n d)

/-- The reference's scales of the input. -/
theorem pay6_apply (r : Fin 16) (g : Fin 56) : k0_pay6 x (ix2 r g) = xs (X x) r g := by
  pointwise [k0_pay6, k0_pay5]
  exact ref_scale_read _

/-- The same scales as they are stored. -/
theorem pay3_apply (r : Fin 16) (z : Fin 1) (g : Fin 56) : k0_pay3 (k0_pay6 x) (ix3 r z g) = xs (X x) r g := by
  pointwise [k0_pay3]
  exact pay6_apply x r g

/-- The reference's codes of the input. -/
theorem pay7_apply (r : Fin 16) (d : Fin 7168) : k0_pay7 x (ix2 r d) = xc (X x) r d := by
  pointwise [k0_pay7, k0_pay5]
  rw [pay6_apply, xs, inv_scale]
  rfl

/-- The reference's decoded input, spread over the projections and the column blocks. -/
theorem pay9_apply (h : Fin 2) (n : Fin 192) (r : Fin 16) (d : Fin 7168) :
    k0_pay9 x (ix5 h n r ⟨d.val / 128, by omega⟩ ⟨d.val % 128, by omega⟩) = xq (X x) r d := by
  pointwise [k0_pay9]
  rw [pay7_apply, pay6_apply]

  rfl

/-- The weight scales, spread over rows and lanes. -/
theorem pay8_apply (h : Fin 2) (n : Fin 192) (g : Fin 56) : k0_pay8 s (ix5 h n 0 g 0) = Sc s h n g := by
  pointwise [k0_pay8]
  rfl

/-- The reference's activation, before it is stored. -/
theorem pay10_apply (r : Fin 16) (n : Fin 24576) :
    k0_pay10 (k0_pay8 s) (k0_pay9 x) w (ix2 r n) = act (X x) (Sc s) (W w) r n := by
  pointwise [k0_pay10]
  simp only [pay8_apply, pay9_apply]
  rfl

/-- The reference's activation as it is stored. -/
theorem pay2_apply (r : Fin 16) (n : Fin 24576) :
    k0_pay2 (k0_pay10 (k0_pay8 s) (k0_pay9 x) w) (ix2 r n) = act (X x) (Sc s) (W w) r n := by
  pointwise [k0_pay2]
  exact pay10_apply x s w r n

/-- The reference's scales of the activation. -/
theorem pay12_apply (r : Fin 16) (n : Fin 192) :
    k0_pay12 (k0_pay8 s) (k0_pay9 x) w (ix2 r n) = asc (X x) (Sc s) (W w) r n := by
  pointwise [k0_pay12, k0_pay11]
  rw [ref_scale_read]
  simp only [pay10_apply]
  rfl

/-- The same scales as they are stored. -/
theorem pay4_apply (r : Fin 16) (z : Fin 1) (n : Fin 192) :
    k0_pay4 (k0_pay12 (k0_pay8 s) (k0_pay9 x) w) (ix3 r z n) = asc (X x) (Sc s) (W w) r n := by
  pointwise [k0_pay4]
  exact pay12_apply x s w r n

/-- The reference's codes of the activation. -/
theorem pay1_apply (r : Fin 16) (n : Fin 24576) :
    k0_pay1 (k0_pay13 (k0_pay8 s) (k0_pay9 x) w) (ix2 r n) = ac (X x) (Sc s) (W w) r n := by
  pointwise [k0_pay1, k0_pay13, k0_pay11]
  rw [pay12_apply, pay10_apply, asc, inv_scale]
  rfl

end Cert.ReferenceIdeal.Hand
-- ==== Proof.RRun.lean ====
module

public import proofs.«01_k».proof.Proof.RVal
public import proofs.«01_k».proof.Proof.Gen.ReferenceIdeal.Value
public import Idealize.ShloMosaic.Lib.Pipeline.ValueKit

@[expose] public section

set_option maxRecDepth 16384
set_option maxHeartbeats 400000

noncomputable section

namespace Cert.ReferenceIdeal.Hand

open Cert.ReferenceIdeal Cert.ReferenceIdeal.Gen Idealize.ShloMosaic Idealize.ShloMosaic.TcCoe Idealize.SL.Sem
open Cert.Scale
variable (m : (ℓ : Loc nD τ sig) → Buf (Elt Ideal) ℓ) (ρ : Dev nD → PrngReg)

/-- The input as launched, by its coordinates. -/
def X0 (c : Dev nD) (r : Fin 16) (d : Fin 7168) : EReal := m ((c : Thread nD τ).loc main_arg0) (ix3 r 0 d)
/-- The weights as launched. -/
def W0 (c : Dev nD) (h : Fin 2) (n : Fin 24576) (d : Fin 7168) : EReal := m ((c : Thread nD τ).loc main_arg1) (ix3 h n d)
/-- The weight scales as launched. -/
def S0 (c : Dev nD) (h : Fin 2) (n : Fin 192) (g : Fin 56) : EReal := m ((c : Thread nD τ).loc main_arg2) (ix3 h n g)

/-- The window of the input is the whole array. -/
theorem idx0 : ∀ t : Fin cfg0.N, win0_0.index t = ![0, 0] := (by decide +kernel : ∀ t : Fin grid0.N, win0_0.index t = ![0, 0])
/-- The window of the weights is the whole array. -/
theorem idx1 : ∀ t : Fin cfg0.N, win0_1.index t = ![0, 0, 0] := (by decide +kernel : ∀ t : Fin grid0.N, win0_1.index t = ![0, 0, 0])
/-- The window of the weight scales is the whole array. -/
theorem idx2 : ∀ t : Fin cfg0.N, win0_2.index t = ![0, 0, 0] := (by decide +kernel : ∀ t : Fin grid0.N, win0_2.index t = ![0, 0, 0])

/-- The block of the input that the body sees. -/
theorem blk_x (c : Dev nD) (t : Fin cfg0.N) : X (iblk m c 0 t) = X0 m c := by
  funext r d
  unfold X0 X
  blk_ext! [iblk, V, idx0 t]

/-- The block of the weights that the body sees. -/
theorem blk_w (c : Dev nD) (t : Fin cfg0.N) : W (iblk m c 1 t) = W0 m c := by
  funext h n d
  unfold W0 W
  blk_ext! [iblk, V, idx1 t]

/-- The block of the weight scales that the body sees. -/
theorem blk_s (c : Dev nD) (t : Fin cfg0.N) : Sc (iblk m c 2 t) = S0 m c := by
  funext h n g
  unfold S0 Sc
  blk_ext! [iblk, V, idx2 t]

/-- A rectangle that is its whole shape places each index at itself. -/
theorem whole_idx {s : Shape} {off : Fin s.rank → ℕ} (h : ∀ a, off a + s.size a ≤ s.size a) (x : s.Idx) :
    (Rect.unit off s.size h).idx x = x := by
  funext a; apply Fin.ext
  have := h a
  show off a + 1 * (x a).val = (x a).val
  omega

/-- The scales the body broadcasts are those of the whole block. -/
theorem pay14_eq (x0 : Vec Ideal S16x7168 .bf16) (x1 : Vec Ideal S2x24576x7168 .fp8e4m3) (x2 : Vec Ideal S2x192x56 .f32) :
    k0_pay14 x0 x1 x2 = k0_pay8 x2 := by
  unfold k0_pay14
  exact congrArg k0_pay8 (funext fun y => congrArg x2 (whole_idx _ y))

/-- The decoded input likewise. -/
theorem pay15_eq (x0 : Vec Ideal S16x7168 .bf16) (x1 : Vec Ideal S2x24576x7168 .fp8e4m3) (x2 : Vec Ideal S2x192x56 .f32) :
    k0_pay15 x0 x1 x2 = k0_pay9 x0 := by
  unfold k0_pay15
  exact congrArg k0_pay9 (funext fun y => congrArg x0 (whole_idx _ y))

/-- The only grid point. -/
def tz : Fin cfg0.N := ⟨0, by decide⟩

/-- The array of result 1 after the run. -/
theorem arr3 (c : Dev nD) : (dats m 0 c).arrAt 3 cfg0.N = fun j : S16x24576.Idx => act (X0 m c) (S0 m c) (W0 m c) (j 0) (j 1) := by
  refine (dats m 0 c).arrAt_eq_of_after_last 3 tz (by decide +kernel) _ fun j => ?_
  blk_simp
  rw [after0_3]
  frame_out
  obtain ⟨j0, j1, rfl⟩ : ∃ j0 j1, j = (ix2 j0 j1 : S16x24576.Idx) := ⟨j 0, j 1, eq_ix2 j⟩
  rw [pay14_eq, pay15_eq]
  refine (pay2_apply (iblk m c 0 tz) (iblk m c 2 tz) (iblk m c 1 tz) j0 j1).trans ?_
  rw [blk_x, blk_s, blk_w]
  rfl

/-- The array of result 2 after the run. -/
theorem arr4 (c : Dev nD) : (dats m 0 c).arrAt 4 cfg0.N = fun j : S16x7168.Idx => xc (X0 m c) (j 0) (j 1) := by
  refine (dats m 0 c).arrAt_eq_of_after_last 4 tz (by decide +kernel) _ fun j => ?_
  blk_simp
  rw [after0_4]
  frame_out
  obtain ⟨j0, j1, rfl⟩ : ∃ j0 j1, j = (ix2 j0 j1 : S16x7168.Idx) := ⟨j 0, j 1, eq_ix2 j⟩
  refine (pay7_apply (iblk m c 0 tz) j0 j1).trans ?_
  rw [blk_x]
  rfl

/-- The array of result 3 after the run. -/
theorem arr5 (c : Dev nD) : (dats m 0 c).arrAt 5 cfg0.N = fun j : S16x1x56.Idx => xs (X0 m c) (j 0) (j 2) := by
  refine (dats m 0 c).arrAt_eq_of_after_last 5 tz (by decide +kernel) _ fun j => ?_
  blk_simp
  rw [after0_5]
  frame_out
  obtain ⟨j0, j1, j2, rfl⟩ : ∃ j0 j1 j2, j = (ix3 j0 j1 j2 : S16x1x56.Idx) := ⟨j 0, j 1, j 2, eq_ix3 j⟩
  refine (pay3_apply (iblk m c 0 tz) j0 j1 j2).trans ?_
  rw [blk_x]
  rfl

/-- The array of result 4 after the run. -/
theorem arr6 (c : Dev nD) : (dats m 0 c).arrAt 6 cfg0.N = fun j : S16x24576.Idx => ac (X0 m c) (S0 m c) (W0 m c) (j 0) (j 1) := by
  refine (dats m 0 c).arrAt_eq_of_after_last 6 tz (by decide +kernel) _ fun j => ?_
  blk_simp
  rw [after0_6]
  frame_out
  obtain ⟨j0, j1, rfl⟩ : ∃ j0 j1, j = (ix2 j0 j1 : S16x24576.Idx) := ⟨j 0, j 1, eq_ix2 j⟩
  rw [pay14_eq, pay15_eq]
  refine (pay1_apply (iblk m c 0 tz) (iblk m c 2 tz) (iblk m c 1 tz) j0 j1).trans ?_
  rw [blk_x, blk_s, blk_w]
  rfl

/-- The array of result 5 after the run. -/
theorem arr7 (c : Dev nD) : (dats m 0 c).arrAt 7 cfg0.N = fun j : S16x1x192.Idx => asc (X0 m c) (S0 m c) (W0 m c) (j 0) (j 2) := by
  refine (dats m 0 c).arrAt_eq_of_after_last 7 tz (by decide +kernel) _ fun j => ?_
  blk_simp
  rw [after0_7]
  frame_out
  obtain ⟨j0, j1, j2, rfl⟩ : ∃ j0 j1 j2, j = (ix3 j0 j1 j2 : S16x1x192.Idx) := ⟨j 0, j 1, j 2, eq_ix3 j⟩
  rw [pay14_eq, pay15_eq]
  refine (pay4_apply (iblk m c 0 tz) (iblk m c 2 tz) (iblk m c 1 tz) j0 j1 j2).trans ?_
  rw [blk_x, blk_s, blk_w]
  rfl

/-- The run of the reference: every result array, element by element, as a function of the arguments, and the arguments unchanged. -/
theorem run_vals : θ_run defs (onTc (τ := τ) (main (F := Ideal))) ⟨m, fun _ => 0, ρ⟩ (fun r => ∀ c : Dev nD,
      r.2.mem ((c.tc : Thread nD τ).loc main_v1_0) = (fun j : S16x24576.Idx => act (X0 m c) (S0 m c) (W0 m c) (j 0) (j 1))
      ∧ r.2.mem ((c.tc : Thread nD τ).loc main_v1_1) = (fun j : S16x7168.Idx => xc (X0 m c) (j 0) (j 1))
      ∧ r.2.mem ((c.tc : Thread nD τ).loc main_v1_2) = (fun j : S16x1x56.Idx => xs (X0 m c) (j 0) (j 2))
      ∧ r.2.mem ((c.tc : Thread nD τ).loc main_v1_3) = (fun j : S16x24576.Idx => ac (X0 m c) (S0 m c) (W0 m c) (j 0) (j 1))
      ∧ r.2.mem ((c.tc : Thread nD τ).loc main_v1_4) = (fun j : S16x1x192.Idx => asc (X0 m c) (S0 m c) (W0 m c) (j 0) (j 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => by
    obtain ⟨h0, h1, h2, h3, h4, h5, h6, h7⟩ := h c
    exact ⟨h0.trans (arr3 m c), h1.trans (arr4 m c), h2.trans (arr5 m c), h3.trans (arr6 m c), h4.trans (arr7 m c), h5, h6, h7⟩)
    (Cert.ReferenceIdeal.Value.run_blocks m ρ)

end Cert.ReferenceIdeal.Hand
-- ==== Proof.lean ====
module

public import proofs.«01_k».proof.Defs
public import proofs.«01_k».proof.Proof.Gen.ReferenceIdeal.Frame
public import proofs.«01_k».proof.Proof.Gen.Kernel.Launch
public import proofs.«01_k».proof.Proof.Same
public import proofs.«01_k».proof.Proof.KRun
public import proofs.«01_k».proof.Proof.RRun

@[expose] public section

open Idealize.ShloMosaic Idealize.SL.Sem Cert.Scale

namespace Cert.Proof

attribute [local instance] Cert.Kernel.Gen.facts Cert.KernelIdeal.Gen.facts Cert.ReferenceIdeal.Gen.facts

/-- The kernel, at machine floats: it runs, its arguments end unchanged and every semaphore counter is zero. -/
theorem kernel_frame : Cert.quiescent_Kernel := by
  intro m g _
  rw [Cert.Same.defs_eq, Cert.Same.main_eq]
  exact Cert.KernelIdeal.Hand.frame m g

/-- The kernel, over the reals, likewise. -/
theorem kernelIdeal_frame : Cert.quiescent_KernelIdeal := fun m g _ => Cert.KernelIdeal.Hand.frame m g

/-- The reference, over the reals, likewise. -/
theorem referenceIdeal_frame : Cert.quiescent_ReferenceIdeal := fun m g _ => Cert.ReferenceIdeal.Gen.frame m g

/-- Over the reals the kernel's five results are the reference's: both runs end with the same functions of the arguments. -/
theorem value : Cert.algebraic_KernelIdeal_ReferenceIdeal := by
  intro m g m' g' _ hargs
  have hX : ∀ c, Cert.ReferenceIdeal.Hand.X0 m' c = Cert.KernelIdeal.Hand.KX m c := fun c => by
    funext r d; exact congrFun (hargs c).1 (ix3 r 0 d)
  have hW : ∀ c, Cert.ReferenceIdeal.Hand.W0 m' c = Cert.KernelIdeal.Hand.KW m c := fun c => by
    funext h n d; exact congrFun (hargs c).2.1 (ix3 h n d)
  have hS : ∀ c, Cert.ReferenceIdeal.Hand.S0 m' c = Cert.KernelIdeal.Hand.KS m c := fun c => by
    funext h n d; exact congrFun (hargs c).2.2 (ix3 h n d)
  have hr := Cert.ReferenceIdeal.Hand.run_vals m' g'
  simp only [hX, hW, hS] at hr
  exact ⟨_, _, _, _, _, Cert.KernelIdeal.Hand.run_vals m g, hr⟩

/-- Everything the certificate claims. -/
theorem claim : Cert.Claim :=
  ⟨Cert.Kernel.Gen.facts, Cert.KernelIdeal.Gen.facts, Cert.ReferenceIdeal.Gen.facts,
    kernel_frame, kernelIdeal_frame, referenceIdeal_frame, trivial, value⟩

end Cert.Proof
